-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x7168 : Shape := ⟨3, ![2, 4096, 7168]⟩
abbrev S18432x7168 : Shape := ⟨2, ![18432, 7168]⟩
abbrev S18432 : Shape := ⟨1, ![18432]⟩
abbrev S64x7168 : Shape := ⟨2, ![64, 7168]⟩
abbrev S18432x64 : Shape := ⟨2, ![18432, 64]⟩
abbrev S_ : Shape := ⟨0, ![]⟩

class Facts : Prop where
  bcast_S_S2x4096x7168 : S_.BroadcastsInDim S2x4096x7168 (![] : Fin 0 → Fin S2x4096x7168.rank)

variable [Facts]

def fn {F : FTy → Type} [FloatOps F] (main_arg0 : FVec F S2x4096x7168 .bf16) (main_arg1 : FVec F S18432x7168 .fp8e4m3) (main_arg2 : FVec F S18432 .f32) (main_arg3 : FVec F S64x7168 .bf16) (main_arg4 : FVec F S18432x64 .bf16) (main_arg5 : FVec F S18432 .f32) : IVec S2x4096x7168 1 :=
  let main_v0 : FVec F S2x4096x7168 .bf16 := Host.absf main_arg0
  let main_cst : FVec F S_ .bf16 := constant S_ .bf16 0x7F7F#16
  let main_v1 : FVec F S2x4096x7168 .bf16 := broadcastInDim S2x4096x7168 ![] bcast_S_S2x4096x7168 main_cst
  let main_v2 : IVec S2x4096x7168 1 := cmpf .ole main_v0 main_v1
  main_v2
-- ==== Kernel.lean ====
abbrev S2x4096x7168 : Shape := ⟨3, ![2, 4096, 7168]⟩
abbrev S18432x7168 : Shape := ⟨2, ![18432, 7168]⟩
abbrev S18432 : Shape := ⟨1, ![18432]⟩
abbrev S64x7168 : Shape := ⟨2, ![64, 7168]⟩
abbrev S18432x64 : Shape := ⟨2, ![18432, 64]⟩
abbrev S8192x7168 : Shape := ⟨2, ![8192, 7168]⟩
abbrev S8192x1 : Shape := ⟨2, ![8192, 1]⟩
abbrev S8192x64 : Shape := ⟨2, ![8192, 64]⟩
abbrev S256x7168 : Shape := ⟨2, ![256, 7168]⟩
abbrev S256x1 : Shape := ⟨2, ![256, 1]⟩
abbrev S256x64 : Shape := ⟨2, ![256, 64]⟩
abbrev S256 : Shape := ⟨1, ![256]⟩
abbrev S1x256 : Shape := ⟨2, ![1, 256]⟩
abbrev S256x256 : Shape := ⟨2, ![256, 256]⟩
abbrev S18432x1 : Shape := ⟨2, ![18432, 1]⟩
abbrev S1x18432 : Shape := ⟨2, ![1, 18432]⟩
abbrev S8192x18432 : Shape := ⟨2, ![8192, 18432]⟩
abbrev S1024x7168 : Shape := ⟨2, ![1024, 7168]⟩
abbrev S1024x1 : Shape := ⟨2, ![1024, 1]⟩
abbrev S1024x64 : Shape := ⟨2, ![1024, 64]⟩
abbrev S1x1024 : Shape := ⟨2, ![1, 1024]⟩
abbrev S1024x1024 : Shape := ⟨2, ![1024, 1024]⟩
abbrev S2x4096x18432 : Shape := ⟨3, ![2, 4096, 18432]⟩
abbrev S2x4096 : Shape := ⟨2, ![2, 4096]⟩

abbrev nBuf : Space → Nat
  | .hbm => 20
  | .vmem => 36
  | .smem => 0
  | _ => 0

abbrev bufTy : (tb : Table) → Fin (tcTables nBuf tb) → BufTy
  | .hbm, ⟨0, _⟩ => ⟨S2x4096x7168, .bf16⟩
  | .hbm, ⟨1, _⟩ => ⟨S18432x7168, .fp8e4m3⟩
  | .hbm, ⟨2, _⟩ => ⟨S18432, .f32⟩
  | .hbm, ⟨3, _⟩ => ⟨S64x7168, .bf16⟩
  | .hbm, ⟨4, _⟩ => ⟨S18432x64, .bf16⟩
  | .hbm, ⟨5, _⟩ => ⟨S18432, .f32⟩
  | .hbm, ⟨6, _⟩ => ⟨S8192x7168, .bf16⟩
  | .hbm, ⟨7, _⟩ => ⟨S8192x7168, .fp8e4m3⟩
  | .hbm, ⟨8, _⟩ => ⟨S8192x1, .f32⟩
  | .hbm, ⟨9, _⟩ => ⟨S8192x64, .bf16⟩
  | .hbm, ⟨10, _⟩ => ⟨S18432x1, .f32⟩
  | .hbm, ⟨11, _⟩ => ⟨S18432x1, .f32⟩
  | .hbm, ⟨12, _⟩ => ⟨S1x18432, .f32⟩
  | .hbm, ⟨13, _⟩ => ⟨S1x18432, .f32⟩
  | .hbm, ⟨14, _⟩ => ⟨S1x18432, .f32⟩
  | .hbm, ⟨15, _⟩ => ⟨S8192x18432, .bf16⟩
  | .hbm, ⟨16, _⟩ => ⟨S2x4096x18432, .bf16⟩
  | .hbm, ⟨17, _⟩ => ⟨S18432, .f32⟩
  | .hbm, ⟨18, _⟩ => ⟨S2x4096x7168, .fp8e4m3⟩
  | .hbm, ⟨19, _⟩ => ⟨S2x4096, .f32⟩
  | .local _ .vmem, ⟨0, _⟩ => ⟨S256x7168, .bf16⟩
  | .local _ .vmem, ⟨1, _⟩ => ⟨S256x7168, .bf16⟩
  | .local _ .vmem, ⟨2, _⟩ => ⟨S64x7168, .bf16⟩
  | .local _ .vmem, ⟨3, _⟩ => ⟨S256x7168, .fp8e4m3⟩
  | .local _ .vmem, ⟨4, _⟩ => ⟨S256x7168, .fp8e4m3⟩
  | .local _ .vmem, ⟨5, _⟩ => ⟨S256x1, .f32⟩
  | .local _ .vmem, ⟨6, _⟩ => ⟨S256x1, .f32⟩
  | .local _ .vmem, ⟨7, _⟩ => ⟨S256x64, .bf16⟩
  | .local _ .vmem, ⟨8, _⟩ => ⟨S256x64, .bf16⟩
  | .local _ .vmem, ⟨9, _⟩ => ⟨S256x7168, .fp8e4m3⟩
  | .local _ .vmem, ⟨10, _⟩ => ⟨S256x7168, .fp8e4m3⟩
  | .local _ .vmem, ⟨11, _⟩ => ⟨S256x1, .f32⟩
  | .local _ .vmem, ⟨12, _⟩ => ⟨S256x1, .f32⟩
  | .local _ .vmem, ⟨13, _⟩ => ⟨S64x7168, .bf16⟩
  | .local _ .vmem, ⟨14, _⟩ => ⟨S256x64, .bf16⟩
  | .local _ .vmem, ⟨15, _⟩ => ⟨S256x64, .bf16⟩
  | .local _ .vmem, ⟨16, _⟩ => ⟨S256x1, .f32⟩
  | .local _ .vmem, ⟨17, _⟩ => ⟨S256x1, .f32⟩
  | .local _ .vmem, ⟨18, _⟩ => ⟨S1024x7168, .fp8e4m3⟩
  | .local _ .vmem, ⟨19, _⟩ => ⟨S1024x7168, .fp8e4m3⟩
  | .local _ .vmem, ⟨20, _⟩ => ⟨S1024x1, .f32⟩
  | .local _ .vmem, ⟨21, _⟩ => ⟨S1024x1, .f32⟩
  | .local _ .vmem, ⟨22, _⟩ => ⟨S1024x64, .bf16⟩
  | .local _ .vmem, ⟨23, _⟩ => ⟨S1024x64, .bf16⟩
  | .local _ .vmem, ⟨24, _⟩ => ⟨S1024x7168, .fp8e4m3⟩
  | .local _ .vmem, ⟨25, _⟩ => ⟨S1024x7168, .fp8e4m3⟩
  | .local _ .vmem, ⟨26, _⟩ => ⟨S1024x64, .bf16⟩
  | .local _ .vmem, ⟨27, _⟩ => ⟨S1024x64, .bf16⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1024x1024, .bf16⟩
  | .local _ .vmem, ⟨35, _⟩ => ⟨S1024x1024, .bf16⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x7168 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 18], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x7168 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x7168 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S1024x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== ReferenceIdeal.lean ====
abbrev S2x4096x7168 : Shape := ⟨3, ![2, 4096, 7168]⟩
abbrev S18432x7168 : Shape := ⟨2, ![18432, 7168]⟩
abbrev S18432 : Shape := ⟨1, ![18432]⟩
abbrev S64x7168 : Shape := ⟨2, ![64, 7168]⟩
abbrev S18432x64 : Shape := ⟨2, ![18432, 64]⟩
abbrev S_ : Shape := ⟨0, ![]⟩
abbrev S2x4096 : Shape := ⟨2, ![2, 4096]⟩
abbrev S253 : Shape := ⟨1, ![253]⟩
abbrev S2x4096x1 : Shape := ⟨3, ![2, 4096, 1]⟩
abbrev S1x1x253 : Shape := ⟨3, ![1, 1, 253]⟩
abbrev S2x4096x253 : Shape := ⟨3, ![2, 4096, 253]⟩
abbrev S8192x7168 : Shape := ⟨2, ![8192, 7168]⟩
abbrev S8192x18432 : Shape := ⟨2, ![8192, 18432]⟩
abbrev S2x4096x18432 : Shape := ⟨3, ![2, 4096, 18432]⟩
abbrev S18432x1 : Shape := ⟨2, ![18432, 1]⟩
abbrev S1x1x18432 : Shape := ⟨3, ![1, 1, 18432]⟩
abbrev S2x4096x64 : Shape := ⟨3, ![2, 4096, 64]⟩

abbrev nBuf : Space → Nat
  | .hbm => 83
  | .vmem => 5
  | .smem => 0
  | _ => 0

abbrev bufTy : (tb : Table) → Fin (tcTables nBuf tb) → BufTy
  | .hbm, ⟨0, _⟩ => ⟨S2x4096x7168, .bf16⟩
  | .hbm, ⟨1, _⟩ => ⟨S18432x7168, .fp8e4m3⟩
  | .hbm, ⟨2, _⟩ => ⟨S18432, .f32⟩
  | .hbm, ⟨3, _⟩ => ⟨S64x7168, .bf16⟩
  | .hbm, ⟨4, _⟩ => ⟨S18432x64, .bf16⟩
  | .hbm, ⟨5, _⟩ => ⟨S18432, .f32⟩
  | .hbm, ⟨6, _⟩ => ⟨S2x4096x7168, .f32⟩
  | .hbm, ⟨7, _⟩ => ⟨S2x4096x7168, .f32⟩
  | .hbm, ⟨8, _⟩ => ⟨S_, .f32⟩
  | .hbm, ⟨9, _⟩ => ⟨S2x4096, .f32⟩
  | .hbm, ⟨10, _⟩ => ⟨S_, .f32⟩
  | .hbm, ⟨11, _⟩ => ⟨S2x4096, .f32⟩
  | .hbm, ⟨12, _⟩ => ⟨S2x4096, .f32⟩
  | .hbm, ⟨13, _⟩ => ⟨S253, .f32⟩
  | .hbm, ⟨14, _⟩ => ⟨S_, .f32⟩
  | .hbm, ⟨15, _⟩ => ⟨S253, .f32⟩
  | .hbm, ⟨16, _⟩ => ⟨S253, .f32⟩
  | .hbm, ⟨17, _⟩ => ⟨S_, .f32⟩
  | .hbm, ⟨18, _⟩ => ⟨S253, .f32⟩
  | .hbm, ⟨19, _⟩ => ⟨S253, .f32⟩
  | .hbm, ⟨20, _⟩ => ⟨S2x4096x1, .f32⟩
  | .hbm, ⟨21, _⟩ => ⟨S1x1x253, .f32⟩
  | .hbm, ⟨22, _⟩ => ⟨S2x4096x253, .f32⟩
  | .hbm, ⟨23, _⟩ => ⟨S2x4096x253, .f32⟩
  | .hbm, ⟨24, _⟩ => ⟨S2x4096x253, .i1⟩
  | .hbm, ⟨25, _⟩ => ⟨S_, .f32⟩
  | .hbm, ⟨26, _⟩ => ⟨S_, .f32⟩
  | .hbm, ⟨27, _⟩ => ⟨S2x4096x253, .f32⟩
  | .hbm, ⟨28, _⟩ => ⟨S2x4096x253, .f32⟩
  | .hbm, ⟨29, _⟩ => ⟨S2x4096x253, .f32⟩
  | .hbm, ⟨30, _⟩ => ⟨S_, .f32⟩
  | .hbm, ⟨31, _⟩ => ⟨S2x4096, .f32⟩
  | .hbm, ⟨32, _⟩ => ⟨S_, .f32⟩
  | .hbm, ⟨33, _⟩ => ⟨S2x4096, .f32⟩
  | .hbm, ⟨34, _⟩ => ⟨S2x4096, .i1⟩
  | .hbm, ⟨35, _⟩ => ⟨S_, .f32⟩
  | .hbm, ⟨36, _⟩ => ⟨S_, .f32⟩
  | .hbm, ⟨37, _⟩ => ⟨S2x4096, .f32⟩
  | .hbm, ⟨38, _⟩ => ⟨S2x4096, .f32⟩
  | .hbm, ⟨39, _⟩ => ⟨S_, .f32⟩
  | .hbm, ⟨40, _⟩ => ⟨S2x4096, .f32⟩
  | .hbm, ⟨41, _⟩ => ⟨S2x4096, .f32⟩
  | .hbm, ⟨42, _⟩ => ⟨S2x4096x1, .f32⟩
  | .hbm, ⟨43, _⟩ => ⟨S2x4096x7168, .f32⟩
  | .hbm, ⟨44, _⟩ => ⟨S2x4096x7168, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x4096x7168, .f32⟩
  | .hbm, ⟨49, _⟩ => ⟨S2x4096x7168, .f32⟩
  | .hbm, ⟨50, _⟩ => ⟨S_, .f32⟩
  | .hbm, ⟨51, _⟩ => ⟨S2x4096x7168, .f32⟩
  | .hbm, ⟨52, _⟩ => ⟨S2x4096x7168, .f32⟩
  | .hbm, ⟨53, _⟩ => ⟨S8192x7168, .f32⟩
  | .hbm, ⟨54, _⟩ => ⟨S8192x7168, .fp8e4m3⟩
  | .hbm, ⟨55, _⟩ => ⟨S8192x18432, .f32⟩
  | .hbm, ⟨56, _⟩ => ⟨S18432x7168, .f32⟩
  | .hbm, ⟨57, _⟩ => ⟨S2x4096x18432, .f32⟩
  | .hbm, ⟨58, _⟩ => ⟨S18432x7168, .f32⟩
  | .hbm, ⟨59, _⟩ => ⟨S18432x1, .f32⟩
  | .hbm, ⟨60, _⟩ => ⟨S18432x7168, .f32⟩
  | .hbm, ⟨61, _⟩ => ⟨S18432x7168, .f32⟩
  | .hbm, ⟨62, _⟩ => ⟨S18432x7168, .f32⟩
  | .hbm, ⟨63, _⟩ => ⟨S18432x7168, .f32⟩
  | .hbm, ⟨64, _⟩ => ⟨S_, .f32⟩
  | .hbm, ⟨65, _⟩ => ⟨S18432, .f32⟩
  | .hbm, ⟨66, _⟩ => ⟨S18432, .f32⟩
  | .hbm, ⟨67, _⟩ => ⟨S2x4096x1, .f32⟩
  | .hbm, ⟨68, _⟩ => ⟨S2x4096x18432, .f32⟩
  | .hbm, ⟨69, _⟩ => ⟨S2x4096x18432, .f32⟩
  | .hbm, ⟨70, _⟩ => ⟨S1x1x18432, .f32⟩
  | .hbm, ⟨71, _⟩ => ⟨S2x4096x18432, .f32⟩
  | .hbm, ⟨72, _⟩ => ⟨S2x4096x18432, .f32⟩
  | .hbm, ⟨73, _⟩ => ⟨S2x4096x64, .f32⟩
  | .hbm, ⟨74, _⟩ => ⟨S2x4096x64, .bf16⟩
  | .hbm, ⟨75, _⟩ => ⟨S2x4096x18432, .f32⟩
  | .hbm, ⟨76, _⟩ => ⟨S2x4096x18432, .f32⟩
  | .hbm, ⟨77, _⟩ => ⟨S18432, .f32⟩
  | .hbm, ⟨78, _⟩ => ⟨S1x1x18432, .f32⟩
  | .hbm, ⟨79, _⟩ => ⟨S2x4096x18432, .f32⟩
  | .hbm, ⟨80, _⟩ => ⟨S2x4096x18432, .f32⟩
  | .hbm, ⟨81, _⟩ => ⟨S2x4096x18432, .bf16⟩
  | .hbm, ⟨82, _⟩ => ⟨S2x4096x7168, .fp8e4m3⟩
  | .local _ .vmem, ⟨0, _⟩ => ⟨S8192x7168, .f32⟩
  | .local _ .vmem, ⟨1, _⟩ => ⟨S18432x7168, .fp8e4m3⟩
  | .local _ .vmem, ⟨2, _⟩ => ⟨S8192x7168, .fp8e4m3⟩
  | .local _ .vmem, ⟨3, _⟩ => ⟨S8192x18432, .f32⟩
  | .local _ .vmem, ⟨4, _⟩ => ⟨S18432x7168, .f32⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v25 : Ref sig .tc := ⟨.hbm, 52, rfl⟩
abbrev main_v26 : Ref sig .tc := ⟨.hbm, 53, rfl⟩
abbrev main_v27_0 : Ref sig .tc := ⟨.hbm, 54, rfl⟩
abbrev main_v27_1 : Ref sig .tc := ⟨.hbm, 55, rfl⟩
abbrev main_v27_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/- Where the kernel's memory ends: the launch of its three pipelines and the host reshapes between them, with every
   buffer of the program read back at the end (the generated frame reads back the arguments only). -/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution terminates with every buffer of the TensorCores at the
    last boundary's contents. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- Each result and each argument, where the run leaves it. -/
theorem run_results : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c _ (mem_uc main_v8 (by decide)), h c _ (mem_uc main_v9 (by decide)),
    h c _ (mem_uc main_v10 (by decide)), h c _ (mem_uc main_v11 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c)⟩) (run_all m ρ)

end Cert.KernelIdeal.Whole

end
-- ==== Proof.Scale.lean ====
/- The power of two a row of activations is quantised by, twice: as the kernel finds it (count the exponent-field
   thresholds that are at most the row's maximum, write the exponent back into a word) and as the reference finds it (the
   least power of two above the maximum). Plain facts about extended reals; nothing here mentions an array. -/
module

public import Idealize.ShloMosaic.PureOps.Ideal
public import Idealize.ShloMosaic.PureOps.Ideal.Laws
public import Idealize.ShloMosaic.Lib.WordSum

@[expose] public section

noncomputable section

namespace Cert.Scale

open Idealize.ShloMosaic

/-! ## Words as extended reals -/

/-- A non-negative word read by its fields: exponent field `ex` (a normal one) and fraction field `fr`. -/
theorem ieee_normal {w : Nat} (e m : Nat) (b : BitVec w) (ex fr : Nat) (hs : b.extractLsb' (e + m) 1 = 0#1)
    (he : (b.extractLsb' m e).toNat = ex) (hf : (b.extractLsb' 0 m).toNat = fr) (h0 : ex ≠ 0) (h1 : ex ≠ 2 ^ e - 1) :
    Ideal.ieee e m b = (((2 ^ m + fr : Nat) * (2 : ℝ) ^ ((ex : Int) - (2 ^ (e - 1) - 1) - m) : ℝ) : EReal) := by
  unfold Ideal.ieee
  simp only [hs, he, hf]
  rw [if_neg h1, if_neg h0]
  simp

theorem shift_fields : ∀ k : Fin 256, k.val ≤ 254 → ((BitVec.ofNat 32 k.val <<< 23).extractLsb' (8 + 23) 1 = 0#1
    ∧ ((BitVec.ofNat 32 k.val <<< 23).extractLsb' 23 8).toNat = k.val
    ∧ ((BitVec.ofNat 32 k.val <<< 23).extractLsb' 0 23).toNat = 0) := by decide +kernel

/-- A word with exponent field `k` and nothing else is the power of two `2^(k-127)`, for the normal exponents. -/
theorem ieee_shift (k : Fin 256) (h1 : 1 ≤ k.val) (h2 : k.val ≤ 254) :
    Ideal.ieee 8 23 (BitVec.ofNat 32 k.val <<< 23) = (((2 : ℝ) ^ ((k.val : ℤ) - 127) : ℝ) : EReal) := by
  obtain ⟨ha, hb, hc⟩ := shift_fields k h2
  rw [ieee_normal 8 23 _ k.val 0 ha hb hc (by omega) (by have : 2 ^ 8 - 1 = 255 := rfl; omega)]
  refine congrArg Real.toEReal ?_
  have e : ((k.val : ℤ) - (2 ^ (8 - 1) - 1) - ((23 : ℕ) : ℤ)) = ((k.val : ℤ) - 127) + (-23) := by norm_num; ring
  rw [e, zpow_add₀ (by norm_num : (2 : ℝ) ≠ 0), mul_comm, mul_assoc]
  have h : (2 : ℝ) ^ (-23 : ℤ) * ((2 ^ 23 + 0 : ℕ) : ℝ) = 1 := by push_cast; norm_num
  rw [h, mul_one]

theorem bits_zero : Ideal.ofBits .f32 0x00000000#32 = 0 := by simp
theorem bits_zero_shift : Ideal.ieee 8 23 (BitVec.ofNat 32 0 <<< 23) = 0 := bits_zero
theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_one : Ideal.ofBits .f32 0x3F800000#32 = ((1 : ℝ) : EReal) :=
  (ieee_shift 127 (by decide) (by decide)).trans (by norm_num)
theorem bits_two : Ideal.ofBits .f32 0x40000000#32 = ((2 : ℝ) : EReal) :=
  (ieee_shift 128 (by decide) (by decide)).trans (by norm_num)
theorem bits_tiny : Ideal.ofBits .f32 0x00800000#32 = (((2 : ℝ) ^ (-126 : ℤ) : ℝ) : EReal) :=
  (ieee_shift 1 (by decide) (by decide)).trans (by norm_num)
theorem bits_low : Ideal.ofBits .f32 0xC2FA0000#32 = ((-125 : ℝ) : EReal) := by
  simp only [Ideal.ofBits, Ideal.ieee]
  have h1 : ((0xC2FA0000#32).extractLsb' (8 + 23) 1 == 1#1) = true := by decide
  have h2 : ((0xC2FA0000#32).extractLsb' 23 8).toNat = 133 := by decide
  have h3 : ((0xC2FA0000#32).extractLsb' 0 23).toNat = 7995392 := by decide
  rw [h1, h2, h3]
  norm_num
/-- The f32 nearest to one part in 448 is between zero and one part in 256. -/
theorem bits_recip : ∃ c : ℝ, Ideal.ofBits .f32 0x3B124925#32 = (c : EReal) ∧ 0 ≤ c ∧ c ≤ 1 / 256 :=
  ⟨_, ieee_normal 8 23 (0x3B124925#32) 118 1198373 (by decide) (by decide) (by decide) (by decide) (by decide), by positivity, by norm_num⟩
theorem bits_bf16_max : Ideal.ofBits .bf16 0x7F7F#16 = ((255 * 2 ^ 120 : ℝ) : EReal) :=
  (ieee_normal 8 7 (0x7F7F#16) 254 127 (by decide) (by decide) (by decide) (by decide) (by decide)).trans (by norm_num)

/-! ## The two readings of a row's scale -/

/-- The exponent-field threshold number `k`: the value of the word with exponent field `k` and no fraction. -/
def thr (k : Fin 256) : EReal := Ideal.ieee 8 23 (BitVec.ofNat 32 k.val <<< 23)

/-- The kernel's exponent field of `a`: how many thresholds are at most `a`, less one. -/
def kField (a : EReal) : BitVec 32 := (∑ k : Fin 256, if a < thr k then 0#32 else 1#32) - 1#32

/-- The kernel's exponent: zero where the field is zero, else the field's exponent plus one. -/
def kExp (a : EReal) : BitVec 32 := if kField a = 0#32 then 0#32 else kField a - 126#32

/-- The kernel's scale, written back into a word. -/
def kScale (a : EReal) : EReal := Ideal.ieee 8 23 ((kExp a + 127#32) <<< 23)

/-- The kernel's inverse scale, written back into a word. -/
def kInv (a : EReal) : EReal := Ideal.ieee 8 23 ((127#32 - kExp a) <<< 23)

/-- The reference's candidate number `j`, a power of two. -/
def pow2 (j : Fin 253) : EReal := (((2 : ℝ) ^ ((j.val : ℤ) - 125) : ℝ) : EReal)

/-- The reference's scale: one below the smallest normal number, else the least power of two above `a`. -/
def rScale (a : EReal) : EReal :=
  if a < (((2 : ℝ) ^ (-126 : ℤ) : ℝ) : EReal) then ((1 : ℝ) : EReal)
  else (Finset.univ : Finset (Fin 253)).fold min ⊤ fun j => if a < pow2 j then pow2 j else ⊤

/-- Counting the coordinates up to `N`. -/
theorem sum_count (N : ℕ) (hN : N < 256) :
    (∑ k : Fin 256, if k.val ≤ N then 1#32 else 0#32) = BitVec.ofNat 32 (N + 1) := by
  have hv : ∀ k : Fin 256, (if k.val ≤ N then 1#32 else 0#32 : BitVec 32).toNat = if k ∈ Finset.Iic (⟨N, hN⟩ : Fin 256) then 1 else 0 := by
    intro k
    simp only [Finset.mem_Iic, Fin.le_def]
    split_ifs <;> rfl
  have hs : ∑ k : Fin 256, (if k.val ≤ N then 1#32 else 0#32 : BitVec 32).toNat = N + 1 := by
    simp only [hv]
    rw [Finset.sum_ite_mem, Finset.univ_inter, Finset.sum_const, Fin.card_Iic]
    simp
  refine BitVec.eq_of_toNat_eq ?_
  rw [WordSum.toNat_sum _ _ (by rw [hs]; omega), hs, BitVec.toNat_ofNat, Nat.mod_eq_of_lt (by omega)]

/-- The field, once it is known which thresholds are at most `a`. -/
theorem kField_eq (a : EReal) (N : ℕ) (hN : N < 256) (h : ∀ k : Fin 256, a < thr k ↔ N < k.val) :
    kField a = BitVec.ofNat 32 N := by
  unfold kField
  rw [show (fun k : Fin 256 => if a < thr k then 0#32 else 1#32) = fun k => if k.val ≤ N then 1#32 else 0#32 from
    funext fun k => by
      by_cases hk : k.val ≤ N
      · rw [if_pos hk, if_neg (by rw [h]; omega)]
      · rw [if_neg hk, if_pos (by rw [h]; omega)]]
  rw [sum_count N hN]
  refine BitVec.eq_of_toNat_eq ?_
  simp only [BitVec.toNat_sub, BitVec.toNat_ofNat]
  omega

theorem thr_zero (k : Fin 256) (h : k.val = 0) : thr k = 0 := by
  unfold thr; rw [h]; exact bits_zero_shift
theorem thr_mid (k : Fin 256) (h1 : 1 ≤ k.val) (h2 : k.val ≤ 254) : thr k = (((2 : ℝ) ^ ((k.val : ℤ) - 127) : ℝ) : EReal) :=
  ieee_shift k h1 h2
theorem thr_last (k : Fin 256) (h : k.val = 255) : thr k = ⊤ := by
  unfold thr; rw [h]; exact bits_top

/-- Which thresholds are above a number in the binade of `2^n`. -/
theorem lt_thr_iff (r : ℝ) (n : ℤ) (hn : -126 ≤ n) (hn' : n ≤ 126) (h1 : (2 : ℝ) ^ n ≤ r) (h2 : r < (2 : ℝ) ^ (n + 1)) (k : Fin 256) :
    (r : EReal) < thr k ↔ (n + 127).toNat < k.val := by
  have hr : 0 < r := lt_of_lt_of_le (by positivity) h1
  have hk := k.isLt
  rcases Nat.eq_zero_or_pos k.val with h0 | h0
  · rw [thr_zero k h0, h0]
    refine iff_of_false (not_lt.2 (EReal.coe_nonneg.2 hr.le)) (by omega)
  rcases Nat.lt_or_ge k.val 255 with hk5 | hk5
  · rw [thr_mid k h0 (by omega), EReal.coe_lt_coe_iff]
    constructor
    · intro h
      have := (zpow_lt_zpow_iff_right₀ (by norm_num : (1 : ℝ) < 2)).1 (lt_of_le_of_lt h1 h)
      omega
    · intro h
      exact lt_of_lt_of_le h2 (zpow_le_zpow_right₀ (by norm_num) (by omega))
  · rw [thr_last k (by omega)]
    exact iff_of_true (EReal.coe_lt_top r) (by omega)

/-- The words the kernel writes, at an exponent `x` given by its word. -/
theorem word_scale (f : ℕ) (h1 : 1 ≤ f) (h2 : f ≤ 252) :
    (BitVec.ofNat 32 f - 126#32 + 127#32 = BitVec.ofNat 32 (f + 1)) ∧ (127#32 - (BitVec.ofNat 32 f - 126#32) = BitVec.ofNat 32 (253 - f)) := by
  constructor <;>
  · refine BitVec.eq_of_toNat_eq ?_
    simp only [BitVec.toNat_sub, BitVec.toNat_add, BitVec.toNat_ofNat]
    omega

/-- The least candidate above a number in the binade of `2^n`. -/
theorem fold_pow2 (r : ℝ) (n : ℤ) (hn : -126 ≤ n) (hn' : n ≤ 126) (h1 : (2 : ℝ) ^ n ≤ r) (h2 : r < (2 : ℝ) ^ (n + 1)) :
    ((Finset.univ : Finset (Fin 253)).fold min ⊤ fun j => if (r : EReal) < pow2 j then pow2 j else ⊤)
      = (((2 : ℝ) ^ (n + 1) : ℝ) : EReal) := by
  refine le_antisymm ?_ ?_
  · refine (Finset.fold_min_le _).2 (.inr ⟨⟨(n + 126).toNat, by omega⟩, Finset.mem_univ _, ?_⟩)
    have e : pow2 ⟨(n + 126).toNat, by omega⟩ = (((2 : ℝ) ^ (n + 1) : ℝ) : EReal) := by
      unfold pow2
      rw [show (((n + 126).toNat : ℕ) : ℤ) - 125 = n + 1 by omega]
    rw [e, if_pos (EReal.coe_lt_coe_iff.2 h2)]
  · refine (Finset.le_fold_min _).2 ⟨le_top, fun j _ => ?_⟩
    split_ifs with h
    · unfold pow2 at h ⊢
      rw [EReal.coe_lt_coe_iff] at h
      have := (zpow_lt_zpow_iff_right₀ (by norm_num : (1 : ℝ) < 2)).1 (lt_of_le_of_lt h1 h)
      exact EReal.coe_le_coe_iff.2 (zpow_le_zpow_right₀ (by norm_num) (by omega))
    · exact le_top

/-- The two scales agree, and the kernel's inverse word is the reference's quotient, below `2^126`. -/
theorem scale_eq (r : ℝ) (h0 : 0 ≤ r) (h1 : r < (2 : ℝ) ^ (126 : ℤ)) :
    kScale r = rScale r ∧ kInv r = Ideal.div ((1 : ℝ) : EReal) (rScale r) := by
  by_cases ht : r < (2 : ℝ) ^ (-126 : ℤ)
  · -- below the smallest normal number only the zero threshold is at most `r`
    have hf : kField r = BitVec.ofNat 32 0 := kField_eq r 0 (by omega) fun k => by
      have hk := k.isLt
      rcases Nat.eq_zero_or_pos k.val with hk0 | hk0
      · rw [thr_zero k hk0, hk0]
        exact iff_of_false (not_lt.2 (EReal.coe_nonneg.2 h0)) (by omega)
      rcases Nat.lt_or_ge k.val 255 with hk5 | hk5
      · rw [thr_mid k hk0 (by omega), EReal.coe_lt_coe_iff]
        exact iff_of_true (lt_of_lt_of_le ht (zpow_le_zpow_right₀ (by norm_num) (by omega))) (by omega)
      · rw [thr_last k (by omega)]
        exact iff_of_true (EReal.coe_lt_top r) (by omega)
    have he : kExp r = 0#32 := by unfold kExp; rw [hf]; rfl
    have hs : rScale r = ((1 : ℝ) : EReal) := if_pos (EReal.coe_lt_coe_iff.2 ht)
    have hw : Ideal.ieee 8 23 (BitVec.ofNat 32 127 <<< 23) = ((1 : ℝ) : EReal) := bits_one
    refine ⟨?_, ?_⟩
    · unfold kScale; rw [he, hs]; exact hw
    · unfold kInv; rw [he, hs, Ideal.div_coe one_ne_zero]
      refine Eq.trans hw ?_
      norm_num
  · push Not at ht
    have hr : 0 < r := lt_of_lt_of_le (by positivity) ht
    obtain ⟨n, hn1, hn2⟩ := exists_mem_Ico_zpow hr (by norm_num : (1 : ℝ) < 2)
    have hlo : -126 ≤ n := by
      have := (zpow_lt_zpow_iff_right₀ (by norm_num : (1 : ℝ) < 2)).1 (lt_of_le_of_lt ht hn2)
      omega
    have hhi : n < 126 := (zpow_lt_zpow_iff_right₀ (by norm_num : (1 : ℝ) < 2)).1 (lt_of_le_of_lt hn1 h1)
    have hf : kField r = BitVec.ofNat 32 (n + 127).toNat :=
      kField_eq r _ (by omega) (lt_thr_iff r n hlo (by omega) hn1 hn2)
    have hne : BitVec.ofNat 32 (n + 127).toNat ≠ 0#32 := fun h => by
      have := congrArg BitVec.toNat h
      simp only [BitVec.toNat_ofNat] at this
      omega
    have he : kExp r = BitVec.ofNat 32 (n + 127).toNat - 126#32 := by unfold kExp; rw [hf, if_neg hne]
    obtain ⟨w1, w2⟩ := word_scale (n + 127).toNat (by omega) (by omega)
    have hs : rScale r = (((2 : ℝ) ^ (n + 1) : ℝ) : EReal) := by
      unfold rScale
      rw [if_neg (by rw [EReal.coe_lt_coe_iff]; exact not_lt.2 ht)]
      exact fold_pow2 r n hlo (by omega) hn1 hn2
    refine ⟨?_, ?_⟩
    · unfold kScale
      rw [he, w1, hs]
      refine (ieee_shift ⟨(n + 127).toNat + 1, by omega⟩ (by simp) (by simp; omega)).trans ?_
      rw [show (((n + 127).toNat + 1 : ℕ) : ℤ) - 127 = n + 1 by omega]
    · unfold kInv
      rw [he, w2, hs, Ideal.div_coe (by positivity)]
      refine (ieee_shift ⟨253 - (n + 127).toNat, by omega⟩ (by show 1 ≤ 253 - _; omega) (by show 253 - _ ≤ 254; omega)).trans ?_
      rw [show ((253 - (n + 127).toNat : ℕ) : ℤ) - 127 = -(n + 1) by omega, zpow_neg, ← EReal.coe_mul]
      norm_num

end Cert.Scale

end
-- ==== Proof.Payload.lean ====
/- What each kernel body computes, read one element at a time over the extended reals: the quantiser's codes and scale,
   the low-rank product, a row's norm, and an output tile. Each reading is over the block values the body loads. -/
module

public import proofs.«01_k».proof.Proof.Gen.KernelIdeal.Skeleton
public import proofs.«01_k».proof.Proof.Scale
public import Idealize.ShloMosaic.Lib.ValueIdx
public import Idealize.ShloMosaic.Lib.Pointwise
public import Idealize.ShloMosaic.Lib.Pipeline.Value
public import Idealize.ShloMosaic.Lib.MatmulPlain
public import Idealize.ShloMosaic.PureOps.Ideal.Laws

@[expose] public section

set_option maxRecDepth 16384

noncomputable section

namespace Cert.Value

open Idealize.ShloMosaic Idealize.ShloMosaic.ValueIdx
open Cert.Scale

/-! ## The mathematics -/

/-- A row's largest absolute value, times the constant that divides by the largest code. -/
def rowAmt {K : ℕ} (f : Fin K → EReal) : EReal :=
  (Finset.univ : Finset (Fin K)).fold max (Ideal.ofBits .f32 0xFF800000#32) (fun k => max (f k) (-(f k))) * Ideal.ofBits .f32 0x3B124925#32

/-- A value clamped to the range of the codes. -/
def clamp (v : EReal) : EReal := min (Ideal.ofBits .f32 0x43E00000#32) (max (Ideal.ofBits .f32 0xC3E00000#32) v)

/-- The norm of a row of the adapted weight: base codes times their scale, plus the low-rank term. -/
def rowNorm {K R : ℕ} (w : Fin K → EReal) (s : EReal) (b : Fin R → EReal) (a : Fin R → Fin K → EReal) : EReal :=
  Ideal.sqrt (∑ k : Fin K, (w k * s + ∑ r : Fin R, b r * a r k) * (w k * s + ∑ r : Fin R, b r * a r k))

/-- One output: the code product rescaled, plus the low-rank term, times the magnitude over the norm. -/
def outVal (d xs ws low mag norm : EReal) : EReal := (d * xs * ws + low) * Ideal.div mag norm

end Cert.Value

namespace Cert.KernelIdeal.Payload

open Idealize.ShloMosaic Idealize.ShloMosaic.ValueIdx
open Cert.Scale Cert.Value Cert.KernelIdeal Cert.KernelIdeal.Gen

/-! ## Layout steps at an index -/

theorem cast_col {α : Type} (x : S256.Idx → α) (h : S256.ShapeCasts S256x1) (p : Fin 256) (q : Fin 1) :
    shapeCast S256x1 x h (ValueIdx.ix2 p q) = x (ValueIdx.ix1 p) :=
  shapeCast_apply x h (ValueIdx.ix2 p q) (ValueIdx.ix1 p) (by
    rw [Shape.rowMajor_val_one, Shape.rowMajor_val_two]
    show p.val = p.val * 1 + q.val
    have := q.isLt; omega)

theorem bcast_col {α : Type} {M N : ℕ} (x : (⟨2, ![M, 1]⟩ : Shape).Idx → α) (h : (⟨2, ![M, 1]⟩ : Shape).Broadcasts ⟨2, ![M, N]⟩) (hM : M ≠ 1)
    (p : Fin M) (q : Fin N) : broadcastTo ⟨2, ![M, N]⟩ x h (ValueIdx.ix2 p q) = x (ValueIdx.ix2 p (0 : Fin 1)) :=
  broadcastTo_apply x h (ValueIdx.ix2 p q) (ValueIdx.ix2 p (0 : Fin 1)) (fun a => by
    match a with
    | ⟨0, _⟩ => show p.val = if M = 1 then 0 else p.val; rw [if_neg hM]
    | ⟨1, _⟩ => rfl)

theorem bcast_row {α : Type} {M N : ℕ} (x : (⟨2, ![1, N]⟩ : Shape).Idx → α) (h : (⟨2, ![1, N]⟩ : Shape).Broadcasts ⟨2, ![M, N]⟩) (hN : N ≠ 1)
    (p : Fin M) (q : Fin N) : broadcastTo ⟨2, ![M, N]⟩ x h (ValueIdx.ix2 p q) = x (ValueIdx.ix2 (0 : Fin 1) q) :=
  broadcastTo_apply x h (ValueIdx.ix2 p q) (ValueIdx.ix2 (0 : Fin 1) q) (fun a => by
    match a with
    | ⟨0, _⟩ => rfl
    | ⟨1, _⟩ => show q.val = if N = 1 then 0 else q.val; rw [if_neg hN])

theorem lift_row {M N : ℕ} (h : (⟨2, ![M, N]⟩ : Shape).Reduces [1] ⟨1, ![M]⟩) (p : Fin M) (k : Fin N) :
    h.lift (ValueIdx.ix1 p) k = ValueIdx.ix2 p k := by
  funext c
  apply Fin.ext
  match c with
  | ⟨0, _⟩ => rfl
  | ⟨1, _⟩ => rfl

/-! ## The quantiser -/

/-- A shift to the exponent field. -/
theorem shl_word (v : BitVec 32) : IntOp.shli .vector v 23#32 = v <<< 23 := by
  unfold IntOp.shli
  rw [if_pos (by decide)]
  rfl

/-- How many thresholds a value reaches, as the body counts them. -/
theorem count_apply (a : FVec Ideal S256x1 .f32) (t : FVec Ideal S1x256 .f32) (amt : EReal) (p : Fin 256)
    (ha : a (ValueIdx.ix2 p (0 : Fin 1)) = amt) (ht : ∀ k : Fin 256, t (ValueIdx.ix2 (0 : Fin 1) k) = thr k) :
    multiReductionI .add [1] S256 (select (cmpf .olt (broadcastTo S256x256 a broadcasts_S256x1_S256x256) (broadcastTo S256x256 t broadcasts_S1x256_S256x256))
        (broadcast S256x256 0#32) (broadcast S256x256 1#32)) 0#32 reduces_S256x256_S256 rfl (ValueIdx.ix1 p)
      = ∑ k : Fin 256, if amt < thr k then 0#32 else 1#32 := by
  refine (congrFun (multiReductionI_eq_reduceFold .add _ 0#32 reduces_S256x256_S256 rfl) (ValueIdx.ix1 p)).trans ?_
  refine (reduceFold_add_eq_sum reduces_S256x256_S256 (0 : BitVec 32) _ (ValueIdx.ix1 p)).trans ?_
  rw [zero_add, reduces_S256x256_S256.sum_filter_drop_single]
  refine Finset.sum_congr rfl fun (k : Fin 256) _ => ?_
  rw [lift_row reduces_S256x256_S256 p k]
  show (if Ideal.cmp .olt (broadcastTo S256x256 a broadcasts_S256x1_S256x256 (ValueIdx.ix2 p k)) (broadcastTo S256x256 t broadcasts_S1x256_S256x256 (ValueIdx.ix2 p k)) = 1#1 then (0#32 : BitVec 32) else 1#32) = _
  rw [bcast_col a broadcasts_S256x1_S256x256 (by decide) p k, bcast_row t broadcasts_S1x256_S256x256 (by decide) p k, ha, ht]
  show (if BitVec.ofBool (decide (amt < thr k)) = 1#1 then (0#32 : BitVec 32) else 1#32) = _
  by_cases h : amt < thr k
  · simp [h]
  · simp [h]

/-- A row's largest absolute value over the largest code. -/
theorem amt_apply (x : FVec Ideal S256x7168 .f32) (p : Fin 256) (q : Fin 1) :
    mulf (shapeCast S256x1 (multiReduction .maximumf [1] S256 (absf x) 0xFF800000#32 reduces_S256x7168_S256 (.inl rfl) rfl) shapeCasts_S256_S256x1)
      (broadcast S256x1 (Scalar.ofBits .f32 0x3B124925#32)) (ValueIdx.ix2 p q) = rowAmt fun k : Fin 7168 => x (ValueIdx.ix2 p k) := by
  rw [mulf_apply, cast_col _ shapeCasts_S256_S256x1 p q]
  refine congrArg (· * Ideal.ofBits .f32 0x3B124925#32) ((Ideal.multiReduction_maximumf_single (absf x) 0xFF800000#32 reduces_S256x7168_S256 (.inl rfl) rfl (ValueIdx.ix1 p)).trans ?_)
  refine congrArg (fun g : Fin 7168 → EReal => (Finset.univ : Finset (Fin 7168)).fold max (Ideal.ofBits .f32 0xFF800000#32) g) (funext fun k => ?_)
  exact congrArg (fun i => max (x i) (-(x i))) (lift_row reduces_S256x7168_S256 p k)

/-- The thresholds. -/
theorem thr_apply (k : Fin 256) :
    (bitcastToFloat .f32 (shli (iota .tc S1x256 32 [1] iota_S1x256_d1_w32) (broadcast S1x256 23#32)) : FVec Ideal S1x256 .f32) (ValueIdx.ix2 (0 : Fin 1) k) = thr k := by
  show Ideal.ieee 8 23 (IntOp.shli .vector (iota .tc S1x256 32 [1] iota_S1x256_d1_w32 (ValueIdx.ix2 (0 : Fin 1) k)) 23#32) = thr k
  rw [iota_single_apply, shl_word]
  rfl

/-- The exponent, from the count less one. -/
theorem exp_apply (g : IVec S256x1 32) (amt : EReal) (i : S256x1.Idx) (hg : g i = kField amt) :
    select (cmpi .eq g (broadcast S256x1 0#32)) (broadcast S256x1 0#32) (subi g (broadcast S256x1 126#32)) i = kExp amt := by
  show (if BitVec.ofBool (g i == 0#32) = 1#1 then (0#32 : BitVec 32) else g i - 126#32) = _
  rw [hg]
  unfold kExp
  generalize kField amt = f
  by_cases h : f = 0#32
  · rw [if_pos h, if_pos (by rw [h]; decide)]
  · rw [if_neg h, if_neg (by rw [beq_false_of_ne h]; decide)]

theorem pay3_eq (x : Vec Ideal S256x7168 .bf16) : k0_pay3 (F := Ideal) x = x := shapeCast_self x _

/-- The exponent of a row's scale, as a word. -/
theorem pay4_apply (x : Vec Ideal S256x7168 .bf16) (p : Fin 256) (q : Fin 1) :
    k0_pay4 (F := Ideal) x (ValueIdx.ix2 p q) = kExp (rowAmt fun k : Fin 7168 => x (ValueIdx.ix2 p k)) := by
  unfold k0_pay4
  refine exp_apply _ _ _ ?_
  refine (congrArg (· - 1#32) ((cast_col _ shapeCasts_S256_S256x1 p q).trans (count_apply _ _ (rowAmt fun k : Fin 7168 => x (ValueIdx.ix2 p k)) p ?_ thr_apply))).trans ?_
  · rw [pay3_eq]
    exact amt_apply x p 0
  · unfold kField
    rfl

/-- A row's scale. -/
theorem pay5_apply (x : Vec Ideal S256x7168 .bf16) (p : Fin 256) (q : Fin 1) :
    k0_pay5 (F := Ideal) x (ValueIdx.ix2 p q) = kScale (rowAmt fun k : Fin 7168 => x (ValueIdx.ix2 p k)) := by
  unfold k0_pay5
  show Ideal.ieee 8 23 (IntOp.shli .vector (k0_pay4 (F := Ideal) x (ValueIdx.ix2 p q) + 127#32) 23#32) = _
  rw [pay4_apply, shl_word]
  rfl

/-- A code: the value times the inverse scale, clamped. -/
theorem codes_apply (x : Vec Ideal S256x7168 .bf16) (p : Fin 256) (k : Fin 7168) :
    k0_pay1 (F := Ideal) (k0_pay6 x) (Scalar.ofBits .f32 0x43E00000#32) k0_pay7 (ValueIdx.ix2 p k)
      = clamp (x (ValueIdx.ix2 p k) * kInv (rowAmt fun k : Fin 7168 => x (ValueIdx.ix2 p k))) := by
  have h6 : k0_pay6 (F := Ideal) x (ValueIdx.ix2 p k) = x (ValueIdx.ix2 p k) * kInv (rowAmt fun k : Fin 7168 => x (ValueIdx.ix2 p k)) := by
    unfold k0_pay6 k0_pay3
    show shapeCast S256x7168 x shapeCasts_S256x7168_S256x7168 (ValueIdx.ix2 p k) * broadcastTo S256x7168 _ broadcasts_S256x1_S256x7168 (ValueIdx.ix2 p k) = _
    rw [shapeCast_self, bcast_col _ broadcasts_S256x1_S256x7168 (by decide) p k]
    show _ * Ideal.ieee 8 23 (IntOp.shli .vector (127#32 - k0_pay4 (F := Ideal) x (ValueIdx.ix2 p (0 : Fin 1))) 23#32) = _
    rw [pay4_apply, shl_word]
    rfl
  unfold k0_pay1 k0_pay7
  show min (Ideal.ofBits .f32 0x43E00000#32) (max (Ideal.ofBits .f32 0xC3E00000#32) (k0_pay6 (F := Ideal) x (ValueIdx.ix2 p k))) = _
  rw [h6]
  rfl

/-- The zero block a product starts from. -/
theorem zero_apply {s : Shape} (i : s.Idx) : constant (F := Ideal) s .f32 0x00000000#32 i = 0 := bits_zero

/-- The low-rank product of a row of activations with a row of the down projection. -/
theorem pay2_apply (x : Vec Ideal S256x7168 .bf16) (la : Vec Ideal S64x7168 .bf16) (p : Fin 256) (r : Fin 64) :
    k0_pay2 (F := Ideal) x la (ValueIdx.ix2 p r) = ∑ k : Fin 7168, x (ValueIdx.ix2 p k) * la (ValueIdx.ix2 r k) := by
  unfold k0_pay2
  rw [shapeCast_self]
  show FloatOps.matmul (F := Ideal) (φ₁ := .bf16) (φ₂ := .bf16) (DotDims.transposedRhs 256 7168 64) none x la (constant S256x64 .f32 0x00000000#32) (ValueIdx.ix2 p r) = _
  rw [Ideal.matmul_transposedRhs_apply, zero_apply, zero_add]

/-- The norm of a row of the adapted weight. -/
theorem norm_apply (b : Vec Ideal S256x64 .bf16) (a : Vec Ideal S64x7168 .bf16) (w : Vec Ideal S256x7168 .fp8e4m3) (s : Vec Ideal S256x1 .f32)
    (p : Fin 256) (q : Fin 1) :
    k1_pay1 (F := Ideal) b a w s (ValueIdx.ix2 p q)
      = rowNorm (fun k : Fin 7168 => w (ValueIdx.ix2 p k)) (s (ValueIdx.ix2 p (0 : Fin 1))) (fun r : Fin 64 => b (ValueIdx.ix2 p r)) (fun r k => a (ValueIdx.ix2 r k)) := by
  unfold k1_pay1
  show Ideal.sqrt (shapeCast S256x1 _ shapeCasts_S256_S256x1 (ValueIdx.ix2 p q)) = _
  rw [cast_col _ shapeCasts_S256_S256x1 p q]
  refine congrArg Ideal.sqrt ((Ideal.multiReduction_add_single _ 0x00000000#32 reduces_S256x7168_S256 (.inl rfl) rfl (ValueIdx.ix1 p)).trans ?_)
  refine Finset.sum_congr rfl fun (k : Fin 7168) _ => ?_
  rw [lift_row reduces_S256x7168_S256 p k]
  have e : addf (mulf (extf .f32 w bitsLt_fp8e4m3_f32) (broadcastTo S256x7168 (shapeCast S256x1 s shapeCasts_S256x1_S256x1) broadcasts_S256x1_S256x7168))
      (matmul (φ₁ := .bf16) (φ₂ := .bf16) dot_S256x64_S64x7168_S256x7168_1_0_0_1_n_n none b a (constant (F := Ideal) S256x7168 .f32 0x00000000#32)) (ValueIdx.ix2 p k)
      = w (ValueIdx.ix2 p k) * s (ValueIdx.ix2 p (0 : Fin 1)) + ∑ r : Fin 64, b (ValueIdx.ix2 p r) * a (ValueIdx.ix2 r k) := by
    show w (ValueIdx.ix2 p k) * broadcastTo S256x7168 _ broadcasts_S256x1_S256x7168 (ValueIdx.ix2 p k)
      + FloatOps.matmul (F := Ideal) (φ₁ := .bf16) (φ₂ := .bf16) (DotDims.plain 256 64 7168) none b a (constant S256x7168 .f32 0x00000000#32) (ValueIdx.ix2 p k) = _
    rw [bcast_col _ broadcasts_S256x1_S256x7168 (by decide) p k, shapeCast_self, Ideal.matmul_plain_apply, zero_apply, zero_add]
  exact congrArg₂ (· * ·) e e

/-- An element of an output tile. -/
theorem out_apply (c : Vec Ideal S1024x7168 .fp8e4m3) (w : Vec Ideal S1024x7168 .fp8e4m3) (t : Vec Ideal S1024x64 .bf16) (b : Vec Ideal S1024x64 .bf16)
    (mag norm : Vec Ideal S1x1024 .f32) (xs : Vec Ideal S1024x1 .f32) (ws : Vec Ideal S1x1024 .f32) (p q : Fin 1024) :
    k2_pay1 (F := Ideal) c w t b mag norm xs ws (ValueIdx.ix2 p q)
      = outVal (∑ k : Fin 7168, c (ValueIdx.ix2 p k) * w (ValueIdx.ix2 q k)) (xs (ValueIdx.ix2 p (0 : Fin 1))) (ws (ValueIdx.ix2 (0 : Fin 1) q))
          (∑ r : Fin 64, t (ValueIdx.ix2 p r) * b (ValueIdx.ix2 q r)) (mag (ValueIdx.ix2 (0 : Fin 1) q)) (norm (ValueIdx.ix2 (0 : Fin 1) q)) := by
  unfold k2_pay1
  simp only [shapeCast_self]
  show (FloatOps.matmul (F := Ideal) (φ₁ := .fp8e4m3) (φ₂ := .fp8e4m3) (DotDims.transposedRhs 1024 7168 1024) none c w (constant S1024x1024 .f32 0x00000000#32) (ValueIdx.ix2 p q)
      * broadcastTo S1024x1024 xs broadcasts_S1024x1_S1024x1024 (ValueIdx.ix2 p q) * broadcastTo S1024x1024 ws broadcasts_S1x1024_S1024x1024 (ValueIdx.ix2 p q)
      + FloatOps.matmul (F := Ideal) (φ₁ := .bf16) (φ₂ := .bf16) (DotDims.transposedRhs 1024 64 1024) none t b (constant S1024x1024 .f32 0x00000000#32) (ValueIdx.ix2 p q))
      * broadcastTo S1024x1024 (divf mag norm) broadcasts_S1x1024_S1024x1024 (ValueIdx.ix2 p q) = _
  rw [Ideal.matmul_transposedRhs_apply, Ideal.matmul_transposedRhs_apply, zero_apply, zero_add, zero_add,
    bcast_col xs broadcasts_S1024x1_S1024x1024 (by decide) p q, bcast_row ws broadcasts_S1x1024_S1024x1024 (by decide) p q,
    bcast_row _ broadcasts_S1x1024_S1024x1024 (by decide) p q]
  rfl

end Cert.KernelIdeal.Payload
-- ==== Proof.RegionValue.lean ====
/- What each of the three kernels leaves in its result arrays, over the extended reals, as a function of the arrays it
   reads: whichever grid point writes an element, the element is the same formula of its place in the whole array. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.KernelIdeal.RegionValue

open Idealize.ShloMosaic Idealize.ShloMosaic.TcCoe
open Cert.Scale Cert.Value Cert.KernelIdeal Cert.KernelIdeal.Gen Cert.KernelIdeal.Payload

variable (V : (c : Dev nD) → (b : Ref sig .tc) → Buf (Elt Ideal) ((c : Thread nD τ).loc b)) (c : Dev nD)

/-! ## The quantiser -/

/-- The codes of a matrix of activations. -/
def gCodes (X : S8192x7168.Idx → EReal) : S8192x7168.Idx → EReal :=
  fun i => clamp (X i * kInv (rowAmt fun k : Fin 7168 => X (ValueIdx.ix2 (i 0) k)))

/-- The scale of each row. -/
def gScale (X : S8192x7168.Idx → EReal) : S8192x1.Idx → EReal :=
  fun i => kScale (rowAmt fun k : Fin 7168 => X (ValueIdx.ix2 (i 0) k))

/-- The activations through the down projection. -/
def gLow (X : S8192x7168.Idx → EReal) (la : S64x7168.Idx → EReal) : S8192x64.Idx → EReal :=
  fun i => ∑ k : Fin 7168, X (ValueIdx.ix2 (i 0) k) * la (ValueIdx.ix2 (i 1) k)

/-- Which block of each array a grid point of the quantiser reads or writes. -/
theorem idx0 : ∀ t : Fin cfg0.N, win0_0.index t = ![(grid0.coords t 0).val, 0] ∧ win0_1.index t = ![0, 0] ∧ win0_2.index t = ![(grid0.coords t 0).val, 0]
    ∧ win0_3.index t = ![(grid0.coords t 0).val, 0] ∧ win0_4.index t = ![(grid0.coords t 0).val, 0] := by decide +kernel

/-- The code array holds the codes. -/
theorem codes_all : (dat0 V c).arrAt 2 cfg0.N = gCodes (V c main_v0) := by
  refine (dat0 V c).arrAt_eq_of_covers 2 _ (by decide +kernel) fun t hf y => ?_
  blk_simp
  rw [after0_2]
  frame_out
  obtain ⟨p, q, rfl⟩ : ∃ (p : Fin 256) (q : Fin 7168), y = ValueIdx.ix2 p q := ⟨y 0, y 1, ValueIdx.eq_ix2 y⟩
  refine (codes_apply _ p q).trans ?_
  have hb : ∀ k : Fin 7168, iblk0 V c 0 t (ValueIdx.ix2 p k)
      = V c main_v0 (ValueIdx.ix2 ((((View.whole main_v1_0).slice (win0_2.rect t)).emb (ValueIdx.ix2 p q)) 0) k) := by
    intro k
    blk_ext [iblk0, idx0 t]
    show (grid0.coords t 0).val * 256 + p.val = ((((View.whole main_v1_0).slice (win0_2.rect t)).emb (ValueIdx.ix2 p q)) 0).val
    blk_simp [idx0 t]
    rfl
  have hq : V c main_v0 (ValueIdx.ix2 ((((View.whole main_v1_0).slice (win0_2.rect t)).emb (ValueIdx.ix2 p q)) 0) q)
      = V c main_v0 (((View.whole main_v1_0).slice (win0_2.rect t)).emb (ValueIdx.ix2 p q)) := by
    blk_ext [idx0 t]
  unfold gCodes
  rw [← hq]
  simp only [hb]

/-- The scale array holds the scales. -/
theorem scale_all : (dat0 V c).arrAt 3 cfg0.N = gScale (V c main_v0) := by
  refine (dat0 V c).arrAt_eq_of_covers 3 _ (by decide +kernel) fun t hf y => ?_
  blk_simp
  rw [after0_3]
  frame_out
  obtain ⟨p, q, rfl⟩ : ∃ (p : Fin 256) (q : Fin 1), y = ValueIdx.ix2 p q := ⟨y 0, y 1, ValueIdx.eq_ix2 y⟩
  refine (pay5_apply _ p q).trans ?_
  have hb : ∀ k : Fin 7168, iblk0 V c 0 t (ValueIdx.ix2 p k)
      = V c main_v0 (ValueIdx.ix2 ((((View.whole main_v1_1).slice (win0_3.rect t)).emb (ValueIdx.ix2 p q)) 0) k) := by
    intro k
    blk_ext [iblk0, idx0 t]
    show (grid0.coords t 0).val * 256 + p.val = ((((View.whole main_v1_1).slice (win0_3.rect t)).emb (ValueIdx.ix2 p q)) 0).val
    blk_simp [idx0 t]
    rfl
  unfold gScale
  simp only [hb]

/-- The low-rank array holds the activations through the down projection. -/
theorem low_all : (dat0 V c).arrAt 4 cfg0.N = gLow (V c main_v0) (V c main_arg3) := by
  refine (dat0 V c).arrAt_eq_of_covers 4 _ (by decide +kernel) fun t hf y => ?_
  blk_simp
  rw [after0_4]
  frame_out
  obtain ⟨p, q, rfl⟩ : ∃ (p : Fin 256) (q : Fin 64), y = ValueIdx.ix2 p q := ⟨y 0, y 1, ValueIdx.eq_ix2 y⟩
  refine (pay2_apply _ _ p q).trans ?_
  have hb : ∀ k : Fin 7168, iblk0 V c 0 t (ValueIdx.ix2 p k)
      = V c main_v0 (ValueIdx.ix2 ((((View.whole main_v1_2).slice (win0_4.rect t)).emb (ValueIdx.ix2 p q)) 0) k) := by
    intro k
    blk_ext [iblk0, idx0 t]
    show (grid0.coords t 0).val * 256 + p.val = ((((View.whole main_v1_2).slice (win0_4.rect t)).emb (ValueIdx.ix2 p q)) 0).val
    blk_simp [idx0 t]
    rfl
  have ha : ∀ k : Fin 7168, iblk0 V c 1 t (ValueIdx.ix2 q k)
      = V c main_arg3 (ValueIdx.ix2 ((((View.whole main_v1_2).slice (win0_4.rect t)).emb (ValueIdx.ix2 p q)) 1) k) := by
    intro k
    blk_ext [iblk0, idx0 t]
    show q.val = ((((View.whole main_v1_2).slice (win0_4.rect t)).emb (ValueIdx.ix2 p q)) 1).val
    blk_simp [idx0 t]
    rfl
  unfold gLow
  simp only [hb, ha]

/-! ## The row norms -/

/-- The norm of every row of the adapted weight. -/
def gNorm (w : S18432x7168.Idx → EReal) (s : S18432x1.Idx → EReal) (a : S64x7168.Idx → EReal) (b : S18432x64.Idx → EReal) : S18432x1.Idx → EReal :=
  fun i => rowNorm (fun k : Fin 7168 => w (ValueIdx.ix2 (i 0) k)) (s (ValueIdx.ix2 (i 0) (0 : Fin 1)))
    (fun r : Fin 64 => b (ValueIdx.ix2 (i 0) r)) (fun r k => a (ValueIdx.ix2 r k))

/-- Which block of each array a grid point of the norms reads or writes. -/
theorem idx1 : ∀ t : Fin cfg1.N, win1_0.index t = ![(grid1.coords t 0).val, 0] ∧ win1_1.index t = ![(grid1.coords t 0).val, 0] ∧ win1_2.index t = ![0, 0]
    ∧ win1_3.index t = ![(grid1.coords t 0).val, 0] ∧ win1_4.index t = ![(grid1.coords t 0).val, 0] := by decide +kernel

/-- The norm array holds the norms. -/
theorem norm_all : (dat1 V c).arrAt 4 cfg1.N = gNorm (V c main_arg1) (V c main_v2) (V c main_arg3) (V c main_arg4) := by
  refine (dat1 V c).arrAt_eq_of_covers 4 _ (by decide +kernel) fun t hf y => ?_
  blk_simp
  rw [after1_4]
  frame_out
  obtain ⟨p, q, rfl⟩ : ∃ (p : Fin 256) (q : Fin 1), y = ValueIdx.ix2 p q := ⟨y 0, y 1, ValueIdx.eq_ix2 y⟩
  refine (norm_apply _ _ _ _ p q).trans ?_
  have hw : ∀ k : Fin 7168, iblk1 V c 0 t (ValueIdx.ix2 p k)
      = V c main_arg1 (ValueIdx.ix2 ((((View.whole main_v3).slice (win1_4.rect t)).emb (ValueIdx.ix2 p q)) 0) k) := by
    intro k
    blk_ext [iblk1, idx1 t]
    show (grid1.coords t 0).val * 256 + p.val = ((((View.whole main_v3).slice (win1_4.rect t)).emb (ValueIdx.ix2 p q)) 0).val
    blk_simp [idx1 t]
    rfl
  have hs : iblk1 V c 1 t (ValueIdx.ix2 p (0 : Fin 1))
      = V c main_v2 (ValueIdx.ix2 ((((View.whole main_v3).slice (win1_4.rect t)).emb (ValueIdx.ix2 p q)) 0) (0 : Fin 1)) := by
    blk_ext [iblk1, idx1 t]
    show (grid1.coords t 0).val * 256 + p.val = ((((View.whole main_v3).slice (win1_4.rect t)).emb (ValueIdx.ix2 p q)) 0).val
    blk_simp [idx1 t]
    rfl
  have ha : ∀ (r : Fin 64) (k : Fin 7168), iblk1 V c 2 t (ValueIdx.ix2 r k) = V c main_arg3 (ValueIdx.ix2 r k) := by
    intro r k
    blk_ext [iblk1, idx1 t]
  have hb : ∀ r : Fin 64, iblk1 V c 3 t (ValueIdx.ix2 p r)
      = V c main_arg4 (ValueIdx.ix2 ((((View.whole main_v3).slice (win1_4.rect t)).emb (ValueIdx.ix2 p q)) 0) r) := by
    intro r
    blk_ext [iblk1, idx1 t]
    show (grid1.coords t 0).val * 256 + p.val = ((((View.whole main_v3).slice (win1_4.rect t)).emb (ValueIdx.ix2 p q)) 0).val
    blk_simp [idx1 t]
    rfl
  unfold gNorm
  simp only [hw, hs, ha, hb]

end Cert.KernelIdeal.RegionValue
-- ==== Proof.OutValue.lean ====
/- What the last kernel leaves in the output array, over the extended reals, as a function of the arrays it reads. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.KernelIdeal.RegionValue

open Idealize.ShloMosaic Idealize.ShloMosaic.TcCoe
open Cert.Scale Cert.Value Cert.KernelIdeal Cert.KernelIdeal.Gen Cert.KernelIdeal.Payload

variable (V : (c : Dev nD) → (b : Ref sig .tc) → Buf (Elt Ideal) ((c : Thread nD τ).loc b)) (c : Dev nD)

/-! ## The output -/

/-- The output matrix. -/
def gOut (x : S8192x7168.Idx → EReal) (xs : S8192x1.Idx → EReal) (low : S8192x64.Idx → EReal) (w : S18432x7168.Idx → EReal)
    (b : S18432x64.Idx → EReal) (ws mag norm : S1x18432.Idx → EReal) : S8192x18432.Idx → EReal :=
  fun i => outVal (∑ k : Fin 7168, x (ValueIdx.ix2 (i 0) k) * w (ValueIdx.ix2 (i 1) k)) (xs (ValueIdx.ix2 (i 0) (0 : Fin 1))) (ws (ValueIdx.ix2 (0 : Fin 1) (i 1)))
    (∑ r : Fin 64, low (ValueIdx.ix2 (i 0) r) * b (ValueIdx.ix2 (i 1) r)) (mag (ValueIdx.ix2 (0 : Fin 1) (i 1))) (norm (ValueIdx.ix2 (0 : Fin 1) (i 1)))

/-- Which block of each array a grid point of the product reads or writes. -/
theorem idx2 : ∀ t : Fin cfg2.N, win2_0.index t = ![(grid2.coords t 0).val, 0] ∧ win2_1.index t = ![(grid2.coords t 0).val, 0] ∧ win2_2.index t = ![(grid2.coords t 0).val, 0]
    ∧ win2_3.index t = ![(grid2.coords t 1).val, 0] ∧ win2_4.index t = ![(grid2.coords t 1).val, 0]
    ∧ win2_5.index t = ![0, (grid2.coords t 1).val] ∧ win2_6.index t = ![0, (grid2.coords t 1).val] ∧ win2_7.index t = ![0, (grid2.coords t 1).val]
    ∧ win2_8.index t = ![(grid2.coords t 0).val, (grid2.coords t 1).val] := by decide +kernel

/-! Each block the body reads is the array read where the block lies. -/

theorem read2_0 (t : Fin cfg2.N) (p : Fin 1024) (i : Fin 8192) (hi : i.val = (grid2.coords t 0).val * 1024 + p.val) (k : Fin 7168) :
    iblk2 V c 0 t (ValueIdx.ix2 p k) = V c main_v1_0 (ValueIdx.ix2 i k) := by
  blk_ext [iblk2, idx2 t]
  exact hi.symm

theorem read2_1 (t : Fin cfg2.N) (p : Fin 1024) (i : Fin 8192) (hi : i.val = (grid2.coords t 0).val * 1024 + p.val) :
    iblk2 V c 1 t (ValueIdx.ix2 p (0 : Fin 1)) = V c main_v1_1 (ValueIdx.ix2 i (0 : Fin 1)) := by
  blk_ext [iblk2, idx2 t]
  exact hi.symm

theorem read2_2 (t : Fin cfg2.N) (p : Fin 1024) (i : Fin 8192) (hi : i.val = (grid2.coords t 0).val * 1024 + p.val) (r : Fin 64) :
    iblk2 V c 2 t (ValueIdx.ix2 p r) = V c main_v1_2 (ValueIdx.ix2 i r) := by
  blk_ext [iblk2, idx2 t]
  exact hi.symm

theorem read2_3 (t : Fin cfg2.N) (q : Fin 1024) (i : Fin 18432) (hi : i.val = (grid2.coords t 1).val * 1024 + q.val) (k : Fin 7168) :
    iblk2 V c 3 t (ValueIdx.ix2 q k) = V c main_arg1 (ValueIdx.ix2 i k) := by
  blk_ext [iblk2, idx2 t]
  exact hi.symm

theorem read2_4 (t : Fin cfg2.N) (q : Fin 1024) (i : Fin 18432) (hi : i.val = (grid2.coords t 1).val * 1024 + q.val) (r : Fin 64) :
    iblk2 V c 4 t (ValueIdx.ix2 q r) = V c main_arg4 (ValueIdx.ix2 i r) := by
  blk_ext [iblk2, idx2 t]
  exact hi.symm

theorem read2_5 (t : Fin cfg2.N) (q : Fin 1024) (i : Fin 18432) (hi : i.val = (grid2.coords t 1).val * 1024 + q.val) :
    iblk2 V c 5 t (ValueIdx.ix2 (0 : Fin 1) q) = V c main_v4 (ValueIdx.ix2 (0 : Fin 1) i) := by
  blk_ext [iblk2, idx2 t]
  exact hi.symm

theorem read2_6 (t : Fin cfg2.N) (q : Fin 1024) (i : Fin 18432) (hi : i.val = (grid2.coords t 1).val * 1024 + q.val) :
    iblk2 V c 6 t (ValueIdx.ix2 (0 : Fin 1) q) = V c main_v5 (ValueIdx.ix2 (0 : Fin 1) i) := by
  blk_ext [iblk2, idx2 t]
  exact hi.symm

theorem read2_7 (t : Fin cfg2.N) (q : Fin 1024) (i : Fin 18432) (hi : i.val = (grid2.coords t 1).val * 1024 + q.val) :
    iblk2 V c 7 t (ValueIdx.ix2 (0 : Fin 1) q) = V c main_v6 (ValueIdx.ix2 (0 : Fin 1) i) := by
  blk_ext [iblk2, idx2 t]
  exact hi.symm

/-- The output array holds the output. -/
theorem out_all : (dat2 V c).arrAt 8 cfg2.N = gOut (V c main_v1_0) (V c main_v1_1) (V c main_v1_2) (V c main_arg1) (V c main_arg4) (V c main_v4) (V c main_v5) (V c main_v6) := by
  refine (dat2 V c).arrAt_eq_of_covers 8 _ (by decide +kernel) fun t hf y => ?_
  blk_simp
  rw [after2_8]
  frame_out
  obtain ⟨p, q, rfl⟩ : ∃ (p : Fin 1024) (q : Fin 1024), y = ValueIdx.ix2 p q := ⟨y 0, y 1, ValueIdx.eq_ix2 y⟩
  refine (out_apply _ _ _ _ _ _ _ _ p q).trans ?_
  have e0 : ((((View.whole main_v7).slice (win2_8.rect t)).emb (ValueIdx.ix2 p q)) 0).val = (grid2.coords t 0).val * 1024 + p.val := by
    blk_simp [idx2 t]
    rfl
  have e1 : ((((View.whole main_v7).slice (win2_8.rect t)).emb (ValueIdx.ix2 p q)) 1).val = (grid2.coords t 1).val * 1024 + q.val := by
    blk_simp [idx2 t]
    rfl
  generalize ((View.whole main_v7).slice (win2_8.rect t)).emb (ValueIdx.ix2 p q) = i at e0 e1
  unfold gOut
  rw [read2_1 V c t p (i 0) e0, read2_5 V c t q (i 1) e1, read2_6 V c t q (i 1) e1, read2_7 V c t q (i 1) e1]
  simp only [read2_0 V c t p (i 0) e0, read2_2 V c t p (i 0) e0, read2_3 V c t q (i 1) e1, read2_4 V c t q (i 1) e1]

end Cert.KernelIdeal.RegionValue
-- ==== Proof.KernelValue.lean ====
/- What the kernel's run leaves in each result, over the extended reals, as a formula of the argument arrays at an index. -/
module

public import proofs.«01_k».proof.Proof.RegionValue
public import proofs.«01_k».proof.Proof.OutValue

@[expose] public section

set_option maxRecDepth 16384

noncomputable section

namespace Cert.KernelIdeal.Whole

open Idealize.ShloMosaic Idealize.ShloMosaic.TcCoe Idealize.ShloMosaic.StableHlo
open Cert.Scale Cert.Value Cert.KernelIdeal Cert.KernelIdeal.Gen Cert.KernelIdeal.RegionValue

variable (m : (ℓ : Loc nD τ sig) → Buf (Elt Ideal) ℓ) (ρ : Dev nD → PrngReg) (c : Dev nD)

/-- The activations as a matrix. -/
abbrev X : S8192x7168.Idx → EReal := shapeCast S8192x7168 (m ((c : Thread nD τ).loc main_arg0)) shapeCasts_S2x4096x7168_S8192x7168

/-! ## Each array a kernel reads or writes, from the arguments -/

theorem w1_x : W1 m ρ c (Proc.devRef .tc main_v0) = X m c := by
  simp only [W1, hostOps0]
  after_results <;> rfl

theorem w2_codes : W2 m ρ c (Proc.devRef .tc main_v1_0) = gCodes (X m c) :=
  (W2_arr m ρ c 2).trans ((codes_all (V1 m ρ) c).trans (congrArg gCodes (w1_x m ρ c)))

theorem w2_scale : W2 m ρ c (Proc.devRef .tc main_v1_1) = gScale (X m c) :=
  (W2_arr m ρ c 3).trans ((scale_all (V1 m ρ) c).trans (congrArg gScale (w1_x m ρ c)))

theorem w2_low : W2 m ρ c (Proc.devRef .tc main_v1_2) = gLow (X m c) (m ((c : Thread nD τ).loc main_arg3)) :=
  (W2_arr m ρ c 4).trans ((low_all (V1 m ρ) c).trans (congrArg₂ gLow (w1_x m ρ c) (W1_args m ρ c main_arg3 (by decide))))

theorem w3_ws : W3 m ρ c (Proc.devRef .tc main_v2) = shapeCast S18432x1 (m ((c : Thread nD τ).loc main_arg2)) shapeCasts_S18432_S18432x1 := by
  rw [← W2_args m ρ c main_arg2 (by decide)]
  simp only [W3, hostOps1]
  after_results <;> rfl

/-- The norms, from the arguments. -/
abbrev norms : S18432x1.Idx → EReal :=
  gNorm (m ((c : Thread nD τ).loc main_arg1)) (shapeCast S18432x1 (m ((c : Thread nD τ).loc main_arg2)) shapeCasts_S18432_S18432x1)
    (m ((c : Thread nD τ).loc main_arg3)) (m ((c : Thread nD τ).loc main_arg4))

theorem w4_norm : W4 m ρ c (Proc.devRef .tc main_v3) = norms m c := by
  refine (W4_arr m ρ c 4).trans ((norm_all (V3 m ρ) c).trans ?_)
  have e1 : V3 m ρ c main_arg1 = m ((c : Thread nD τ).loc main_arg1) := W3_args m ρ c main_arg1 (by decide)
  have e3 : V3 m ρ c main_arg3 = m ((c : Thread nD τ).loc main_arg3) := W3_args m ρ c main_arg3 (by decide)
  have e4 : V3 m ρ c main_arg4 = m ((c : Thread nD τ).loc main_arg4) := W3_args m ρ c main_arg4 (by decide)
  have e2 : V3 m ρ c main_v2 = _ := w3_ws m ρ c
  rw [e1, e2, e3, e4]

theorem w5_of_w2 (r : Ref sig .tc) (h2 : r ∉ hostOps1_W) (h4 : ∀ w : Fin cfg1.W, Pipeline.arrRef spec1 w = r → (cfg1.win w).isOut = false)
    (h5 : r ∉ hostOps2_W) : W5 m ρ c (Proc.devRef .tc r) = W2 m ρ c (Proc.devRef .tc r) :=
  (W5_of m ρ c r h5).trans ((W4_of m ρ c r h4).trans (W3_of m ρ c r h2))

theorem w5_ws : W5 m ρ c (Proc.devRef .tc main_v4) = shapeCast S1x18432 (m ((c : Thread nD τ).loc main_arg2)) shapeCasts_S18432_S1x18432 := by
  rw [← W4_args m ρ c main_arg2 (by decide)]
  simp only [W5, hostOps2]
  after_results <;> rfl

theorem w5_mag : W5 m ρ c (Proc.devRef .tc main_v5) = shapeCast S1x18432 (m ((c : Thread nD τ).loc main_arg5)) shapeCasts_S18432_S1x18432 := by
  rw [← W4_args m ρ c main_arg5 (by decide)]
  simp only [W5, hostOps2]
  after_results <;> rfl

theorem w5_norm : W5 m ρ c (Proc.devRef .tc main_v6) = shapeCast S1x18432 (norms m c) shapeCasts_S18432x1_S1x18432 := by
  rw [← w4_norm m ρ c]
  simp only [W5, hostOps2]
  after_results <;> rfl

/-- The output matrix, from the arguments. -/
abbrev outs : S8192x18432.Idx → EReal :=
  gOut (gCodes (X m c)) (gScale (X m c)) (gLow (X m c) (m ((c : Thread nD τ).loc main_arg3))) (m ((c : Thread nD τ).loc main_arg1))
    (m ((c : Thread nD τ).loc main_arg4)) (shapeCast S1x18432 (m ((c : Thread nD τ).loc main_arg2)) shapeCasts_S18432_S1x18432)
    (shapeCast S1x18432 (m ((c : Thread nD τ).loc main_arg5)) shapeCasts_S18432_S1x18432) (shapeCast S1x18432 (norms m c) shapeCasts_S18432x1_S1x18432)

theorem w6_out : W6 m ρ c (Proc.devRef .tc main_v7) = outs m c := by
  refine (W6_arr m ρ c 8).trans ((out_all (V5 m ρ) c).trans ?_)
  have e0 : V5 m ρ c main_v1_0 = gCodes (X m c) := (w5_of_w2 m ρ c main_v1_0 (by decide) (by decide) (by decide)).trans (w2_codes m ρ c)
  have e1 : V5 m ρ c main_v1_1 = gScale (X m c) := (w5_of_w2 m ρ c main_v1_1 (by decide) (by decide) (by decide)).trans (w2_scale m ρ c)
  have e2 : V5 m ρ c main_v1_2 = gLow (X m c) _ := (w5_of_w2 m ρ c main_v1_2 (by decide) (by decide) (by decide)).trans (w2_low m ρ c)
  have e3 : V5 m ρ c main_arg1 = m ((c : Thread nD τ).loc main_arg1) := W5_args m ρ c main_arg1 (by decide)
  have e4 : V5 m ρ c main_arg4 = m ((c : Thread nD τ).loc main_arg4) := W5_args m ρ c main_arg4 (by decide)
  have e5 : V5 m ρ c main_v4 = _ := w5_ws m ρ c
  have e6 : V5 m ρ c main_v5 = _ := w5_mag m ρ c
  have e7 : V5 m ρ c main_v6 = _ := w5_norm m ρ c
  rw [e0, e1, e2, e3, e4, e5, e6, e7]

/-! ## The results -/

theorem w6_of_w2 (r : Ref sig .tc) (h2 : r ∉ hostOps1_W) (h4 : ∀ w : Fin cfg1.W, Pipeline.arrRef spec1 w = r → (cfg1.win w).isOut = false)
    (h5 : r ∉ hostOps2_W) (h6 : ∀ w : Fin cfg2.W, Pipeline.arrRef spec2 w = r → (cfg2.win w).isOut = false) :
    W6 m ρ c (Proc.devRef .tc r) = W2 m ρ c (Proc.devRef .tc r) :=
  (W6_of m ρ c r h6).trans (w5_of_w2 m ρ c r h2 h4 h5)

theorem w7_out : W7 m ρ c (Proc.devRef .tc main_v8) = shapeCast S2x4096x18432 (outs m c) shapeCasts_S8192x18432_S2x4096x18432 := by
  rw [← w6_out m ρ c]
  simp only [W7, hostOps3]
  after_results <;> rfl

theorem w7_norm : W7 m ρ c (Proc.devRef .tc main_v9) = shapeCast S18432 (norms m c) shapeCasts_S18432x1_S18432 := by
  rw [← w4_norm m ρ c, ← W5_of m ρ c main_v3 (by decide), ← W6_of m ρ c main_v3 (by decide)]
  simp only [W7, hostOps3]
  after_results <;> rfl

theorem w7_codes : W7 m ρ c (Proc.devRef .tc main_v10) = shapeCast S2x4096x7168 (gCodes (X m c)) shapeCasts_S8192x7168_S2x4096x7168 := by
  rw [← w2_codes m ρ c, ← w6_of_w2 m ρ c main_v1_0 (by decide) (by decide) (by decide) (by decide)]
  simp only [W7, hostOps3]
  after_results <;> rfl

theorem w7_scale : W7 m ρ c (Proc.devRef .tc main_v11) = shapeCast S2x4096 (gScale (X m c)) shapeCasts_S8192x1_S2x4096 := by
  rw [← w2_scale m ρ c, ← w6_of_w2 m ρ c main_v1_1 (by decide) (by decide) (by decide) (by decide)]
  simp only [W7, hostOps3]
  after_results <;> rfl

end Cert.KernelIdeal.Whole
-- ==== Proof.RefRegion.lean ====
/- What the reference's one gridless call leaves in its three results: the codes it was given, their product with the weight
   codes, and the weight codes as numbers. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.MatmulPlain

@[expose] public section

set_option maxRecDepth 16384

noncomputable section

namespace Cert.ReferenceIdeal.Region

open Idealize.ShloMosaic Idealize.ShloMosaic.TcCoe Idealize.ShloMosaic.StableHlo
open Cert.ReferenceIdeal Cert.ReferenceIdeal.Gen

variable (m : (ℓ : Loc nD τ sig) → Buf (Elt Ideal) ℓ) (c : Dev nD)

/-- Every array is read and written whole. -/
theorem idx0 : ∀ t : Fin cfg0.N, win0_0.index t = ![0, 0] ∧ win0_1.index t = ![0, 0] ∧ win0_2.index t = ![0, 0]
    ∧ win0_3.index t = ![0, 0] ∧ win0_4.index t = ![0, 0] := by decide +kernel

/-- A product of two matrices along their rows. -/
def gDot (z : S8192x7168.Idx → EReal) (w : S18432x7168.Idx → EReal) : S8192x18432.Idx → EReal :=
  fun i => ∑ k : Fin 7168, z (ValueIdx.ix2 (i 0) k) * w (ValueIdx.ix2 (i 1) k)

theorem zero_apply (i : S8192x18432.Idx) : constant (F := Ideal) S8192x18432 .f32 0x00000000#32 i = 0 := by
  show Ideal.ofBits .f32 0x00000000#32 = 0
  simp [Ideal.ofBits, Ideal.ieee]

theorem pay2_apply (z : Vec Ideal S8192x7168 .f32) (w : Vec Ideal S18432x7168 .fp8e4m3) (p : Fin 8192) (q : Fin 18432) :
    k0_pay2 (F := Ideal) z w (ValueIdx.ix2 p q) = ∑ k : Fin 7168, z (ValueIdx.ix2 p k) * w (ValueIdx.ix2 q k) := by
  unfold k0_pay2 k0_pay1
  simp only [shapeCast_self]
  show FloatOps.matmul (F := Ideal) (φ₁ := .fp8e4m3) (φ₂ := .fp8e4m3) (DotDims.transposedRhs 8192 7168 18432) none (truncf .fp8e4m3 z bitsLt_fp8e4m3_f32) w (constant S8192x18432 .f32 0x00000000#32) (ValueIdx.ix2 p q) = _
  rw [Ideal.matmul_transposedRhs_apply, zero_apply, zero_add]
  rfl

theorem read_z (t : Fin cfg0.N) (i : S8192x7168.Idx) : iblk m c 0 t i = V0 m c (Proc.devRef .tc main_v26) i := by
  blk_ext [iblk, idx0 t]

theorem read_w (t : Fin cfg0.N) (i : S18432x7168.Idx) : iblk m c 1 t i = m ((c : Thread nD τ).loc main_arg1) i := by
  rw [← V_main_arg1 m c]
  blk_ext [iblk, idx0 t]

theorem codes_all : Value.reg_main_v27_0 m c = V0 m c (Proc.devRef .tc main_v26) := by
  refine (dats m 0 c).arrAt_eq_of_covers 2 _ (by decide +kernel) fun t hf y => ?_
  blk_simp
  rw [after0_2]
  frame_out
  unfold k0_pay1
  simp only [shapeCast_self]
  show iblk m c 0 t y = _
  rw [read_z]
  blk_ext [idx0 t]

theorem wf_all : Value.reg_main_v27_2 m c = m ((c : Thread nD τ).loc main_arg1) := by
  refine (dats m 0 c).arrAt_eq_of_covers 4 _ (by decide +kernel) fun t hf y => ?_
  blk_simp
  rw [after0_4]
  frame_out
  unfold k0_pay3
  show iblk m c 1 t y = _
  rw [read_w]
  blk_ext [idx0 t]

theorem base_all : Value.reg_main_v27_1 m c = gDot (V0 m c (Proc.devRef .tc main_v26)) (m ((c : Thread nD τ).loc main_arg1)) := by
  refine (dats m 0 c).arrAt_eq_of_covers 3 _ (by decide +kernel) fun t hf y => ?_
  blk_simp
  rw [after0_3]
  frame_out
  obtain ⟨p, q, rfl⟩ : ∃ (p : Fin 8192) (q : Fin 18432), y = ValueIdx.ix2 p q := ⟨y 0, y 1, ValueIdx.eq_ix2 y⟩
  refine (pay2_apply _ _ p q).trans ?_
  simp only [read_z, read_w]
  have h : ((View.whole main_v27_1).slice (win0_3.rect t)).emb (ValueIdx.ix2 p q) = ValueIdx.ix2 p q := by
    blk_ext [idx0 t]
  rw [h]
  rfl

end Cert.ReferenceIdeal.Region
-- ==== Proof.RefScale.lean ====
/- The reference's scales and the codes it hands to the product, over the extended reals, at an index. -/
module

public import proofs.«01_k».proof.Proof.Gen.ReferenceIdeal.Launch
public import proofs.«01_k».proof.Proof.Payload
public import Idealize.ShloMosaic.Lib.ValueIdx
public import Idealize.ShloMosaic.Lib.Pipeline.Value

@[expose] public section

set_option maxRecDepth 16384

noncomputable section

namespace Cert.ReferenceIdeal.Quant

open Idealize.ShloMosaic Idealize.ShloMosaic.TcCoe Idealize.ShloMosaic.StableHlo
open Cert.Scale Cert.Value Cert.ReferenceIdeal Cert.ReferenceIdeal.Gen

/-! ## The terms -/

/-- Each row's largest absolute value over the largest code. -/
def amts (x : FVec Ideal S2x4096x7168 .bf16) : FVec Ideal S2x4096 .f32 :=
  mulf (Host.reduce FloatOps.maximumf (Host.absf (extf .f32 x bitsLt_bf16_f32)) (constant S_ .f32 0xFF800000#32) reducesTo_S2x4096x7168_S2x4096_d2 h_S_)
    (broadcastInDim S2x4096 ![] bcast_S_S2x4096 (constant S_ .f32 0x3B124925#32))

/-- The powers of two the reference looks through. -/
def pows : FVec Ideal S253 .f32 :=
  Host.powf (broadcastInDim S253 ![] bcast_S_S253 (constant S_ .f32 0x40000000#32))
    (addf (broadcastInDim S253 ![] bcast_S_S253 (constant S_ .f32 0xC2FA0000#32)) (sitofp .f32 (iotaInDim S253 32 0)))

/-- The powers above each amount, infinity in the place of the others. -/
def above (a : FVec Ideal S2x4096 .f32) : FVec Ideal S2x4096x253 .f32 :=
  select (cmpf .ogt (broadcastInDim S2x4096x253 ![0, 1, 2] bcast_S1x1x253_S2x4096x253_0_1_2 (broadcastInDim S1x1x253 ![2] bcast_S253_S1x1x253_2 pows))
      (broadcastInDim S2x4096x253 ![0, 1, 2] bcast_S2x4096x1_S2x4096x253_0_1_2 (broadcastInDim S2x4096x1 ![0, 1] bcast_S2x4096_S2x4096x1_0_1 a)))
    (broadcastInDim S2x4096x253 ![2] bcast_S253_S2x4096x253_2 pows)
    (broadcastInDim S2x4096x253 ![] bcast_S_S2x4096x253 (id (constant S_ .f32 0x7F800000#32)))

/-- The scales. -/
def scales (x : FVec Ideal S2x4096x7168 .bf16) : FVec Ideal S2x4096 .f32 :=
  select (cmpf .olt (amts x) (broadcastInDim S2x4096 ![] bcast_S_S2x4096 (constant S_ .f32 0x00800000#32)))
    (broadcastInDim S2x4096 ![] bcast_S_S2x4096 (id (constant S_ .f32 0x3F800000#32)))
    (Host.reduce FloatOps.minimumf (above (amts x)) (constant S_ .f32 0x7F800000#32) reducesTo_S2x4096x253_S2x4096_d2 h_S_)

/-- The activations over their scales, clamped. -/
def codes (x : FVec Ideal S2x4096x7168 .bf16) (s : FVec Ideal S2x4096 .f32) : FVec Ideal S2x4096x7168 .f32 :=
  minimumf (broadcastInDim S2x4096x7168 ![] bcast_S_S2x4096x7168 (id (constant S_ .f32 0x43E00000#32)))
    (maximumf (broadcastInDim S2x4096x7168 ![] bcast_S_S2x4096x7168 (id (constant S_ .f32 0xC3E00000#32)))
      (mulf (extf .f32 x bitsLt_bf16_f32)
        (broadcastInDim S2x4096x7168 ![0, 1, 2] bcast_S2x4096x1_S2x4096x7168_0_1_2 (broadcastInDim S2x4096x1 ![0, 1] bcast_S2x4096_S2x4096x1_0_1
          (Host.divf (broadcastInDim S2x4096 ![] bcast_S_S2x4096 (constant S_ .f32 0x3F800000#32)) s)))))

/-! ## At an index -/

theorem reduces_last : S2x4096x7168.Reduces [2] S2x4096 := by decide
theorem reduces_pows : S2x4096x253.Reduces [2] S2x4096 := by decide

theorem lift_last {M N K : ℕ} (h : (⟨3, ![M, N, K]⟩ : Shape).Reduces [2] ⟨2, ![M, N]⟩) (b : Fin M) (s : Fin N) (k : Fin K) :
    h.lift (ValueIdx.ix2 b s) k = ValueIdx.ix3 b s k := by
  funext c
  apply Fin.ext
  match c with
  | ⟨0, _⟩ => rfl
  | ⟨1, _⟩ => rfl
  | ⟨2, _⟩ => rfl

/-- The largest entry of a row. -/
theorem maxs_apply (y : FVec Ideal S2x4096x7168 .f32) (b : Fin 2) (s : Fin 4096) :
    Host.reduce FloatOps.maximumf y (constant S_ .f32 0xFF800000#32) reducesTo_S2x4096x7168_S2x4096_d2 h_S_ (ValueIdx.ix2 b s)
      = (Finset.univ : Finset (Fin 7168)).fold max (Ideal.ofBits .f32 0xFF800000#32) (fun k => y (ValueIdx.ix3 b s k)) := by
  refine (Host.reduce_eq_fold_single (FloatOps.maximumf (F := Ideal) (φ := .f32)) y (constant S_ .f32 0xFF800000#32) reducesTo_S2x4096x7168_S2x4096_d2 reduces_last h_S_ (ValueIdx.ix2 b s)).trans ?_
  exact congrArg (fun g : Fin 7168 → EReal => (Finset.univ : Finset (Fin 7168)).fold max (Ideal.ofBits .f32 0xFF800000#32) g) (funext fun k => congrArg y (lift_last reduces_last b s k))

theorem amts_read (x : FVec Ideal S2x4096x7168 .bf16) (b : Fin 2) (s : Fin 4096) :
    amts x (ValueIdx.ix2 b s) = Host.reduce FloatOps.maximumf (Host.absf (extf .f32 x bitsLt_bf16_f32)) (constant S_ .f32 0xFF800000#32) reducesTo_S2x4096x7168_S2x4096_d2 h_S_ (ValueIdx.ix2 b s)
      * broadcastInDim S2x4096 ![] bcast_S_S2x4096 (constant (F := Ideal) S_ .f32 0x3B124925#32) (ValueIdx.ix2 b s) := ValueIdx.mulf_apply _ _ _

theorem recip_read (b : Fin 2) (s : Fin 4096) :
    broadcastInDim S2x4096 ![] bcast_S_S2x4096 (constant (F := Ideal) S_ .f32 0x3B124925#32) (ValueIdx.ix2 b s) = Ideal.ofBits .f32 0x3B124925#32 := rfl

theorem rowAmt_read (x : FVec Ideal S2x4096x7168 .bf16) (b : Fin 2) (s : Fin 4096) :
    (Finset.univ : Finset (Fin 7168)).fold max (Ideal.ofBits .f32 0xFF800000#32) (fun k => Host.absf (F := Ideal) (extf .f32 x bitsLt_bf16_f32) (ValueIdx.ix3 b s k)) * Ideal.ofBits .f32 0x3B124925#32
      = rowAmt fun k : Fin 7168 => x (ValueIdx.ix3 b s k) := rfl

/-- A row's largest absolute value over the largest code. -/
theorem amts_apply (x : FVec Ideal S2x4096x7168 .bf16) (b : Fin 2) (s : Fin 4096) :
    amts x (ValueIdx.ix2 b s) = rowAmt fun k : Fin 7168 => x (ValueIdx.ix3 b s k) := by
  rw [amts_read, maxs_apply, recip_read, rowAmt_read]

theorem pows_apply (j : Fin 253) : pows (ValueIdx.ix1 j) = pow2 j := by
  have hj := j.isLt
  have ht : (BitVec.ofNat 32 j.val).toInt = (j.val : ℤ) := by
    rw [BitVec.toInt_eq_toNat_of_lt (by rw [BitVec.toNat_ofNat]; omega), BitVec.toNat_ofNat, Nat.mod_eq_of_lt (by omega)]
  show Ideal.pow (Ideal.ofBits .f32 0x40000000#32) (Ideal.ofBits .f32 0xC2FA0000#32 + (((BitVec.ofNat 32 j.val).toInt : ℝ) : EReal)) = pow2 j
  rw [bits_two, bits_low, ht, ← EReal.coe_add]
  show ((Real.rpow 2 (-125 + ((j.val : ℤ) : ℝ)) : ℝ) : EReal) = _
  have e : (-125 + ((j.val : ℤ) : ℝ)) = (((j.val : ℤ) - 125 : ℤ) : ℝ) := by push_cast; ring
  rw [e]
  unfold pow2
  exact congrArg _ (Real.rpow_intCast 2 _)

theorem pows3_apply (b : Fin 2) (s : Fin 4096) (j : Fin 253) :
    broadcastInDim S2x4096x253 ![2] bcast_S253_S2x4096x253_2 pows (ValueIdx.ix3 b s j) = pow2 j :=
  (broadcastInDim_apply _ bcast_S253_S2x4096x253_2 pows (ValueIdx.ix3 b s j) (ValueIdx.ix1 j) (fun a => match a with | ⟨0, _⟩ => rfl)).trans (pows_apply j)

theorem pows1_apply (b : Fin 2) (s : Fin 4096) (j : Fin 253) :
    broadcastInDim S2x4096x253 ![0, 1, 2] bcast_S1x1x253_S2x4096x253_0_1_2 (broadcastInDim S1x1x253 ![2] bcast_S253_S1x1x253_2 pows) (ValueIdx.ix3 b s j) = pow2 j :=
  (broadcastInDim_apply _ bcast_S1x1x253_S2x4096x253_0_1_2 _ (ValueIdx.ix3 b s j) (ValueIdx.ix3 (0 : Fin 1) (0 : Fin 1) j)
    (fun a => match a with | ⟨0, _⟩ => rfl | ⟨1, _⟩ => rfl | ⟨2, _⟩ => rfl)).trans
  ((broadcastInDim_apply _ bcast_S253_S1x1x253_2 pows _ (ValueIdx.ix1 j) (fun a => match a with | ⟨0, _⟩ => rfl)).trans (pows_apply j))

theorem row_col_apply (a : FVec Ideal S2x4096 .f32) (b : Fin 2) (s : Fin 4096) :
    broadcastInDim S2x4096x1 ![0, 1] bcast_S2x4096_S2x4096x1_0_1 a (ValueIdx.ix3 b s (0 : Fin 1)) = a (ValueIdx.ix2 b s) :=
  broadcastInDim_apply _ bcast_S2x4096_S2x4096x1_0_1 a _ (ValueIdx.ix2 b s) (fun a => match a with | ⟨0, _⟩ => rfl | ⟨1, _⟩ => rfl)

theorem above_apply (a : FVec Ideal S2x4096 .f32) (b : Fin 2) (s : Fin 4096) (j : Fin 253) :
    above a (ValueIdx.ix3 b s j) = if a (ValueIdx.ix2 b s) < pow2 j then pow2 j else ⊤ := by
  have ha : broadcastInDim S2x4096x253 ![0, 1, 2] bcast_S2x4096x1_S2x4096x253_0_1_2 (broadcastInDim S2x4096x1 ![0, 1] bcast_S2x4096_S2x4096x1_0_1 a) (ValueIdx.ix3 b s j)
      = a (ValueIdx.ix2 b s) :=
    (broadcastInDim_apply _ bcast_S2x4096x1_S2x4096x253_0_1_2 _ (ValueIdx.ix3 b s j) (ValueIdx.ix3 b s (0 : Fin 1))
      (fun a => match a with | ⟨0, _⟩ => rfl | ⟨1, _⟩ => rfl | ⟨2, _⟩ => rfl)).trans (row_col_apply a b s)
  unfold above
  rw [ValueIdx.select_apply, ValueIdx.cmpf_apply, pows1_apply, pows3_apply, ha]
  show (if Ideal.cmp .ogt (pow2 j) (a (ValueIdx.ix2 b s)) = 1 then pow2 j else Ideal.ofBits .f32 0x7F800000#32) = _
  rw [bits_top]
  by_cases h : a (ValueIdx.ix2 b s) < pow2 j
  · rw [if_pos h, if_pos (by simp [Ideal.cmp, h])]
  · rw [if_neg h, if_neg (by simp [Ideal.cmp, h])]

/-- The least entry of a row. -/
theorem mins_apply (y : FVec Ideal S2x4096x253 .f32) (b : Fin 2) (s : Fin 4096) :
    Host.reduce FloatOps.minimumf y (constant S_ .f32 0x7F800000#32) reducesTo_S2x4096x253_S2x4096_d2 h_S_ (ValueIdx.ix2 b s)
      = (Finset.univ : Finset (Fin 253)).fold min (Ideal.ofBits .f32 0x7F800000#32) (fun j => y (ValueIdx.ix3 b s j)) := by
  refine (Host.reduce_eq_fold_single (FloatOps.minimumf (F := Ideal) (φ := .f32)) y (constant S_ .f32 0x7F800000#32) reducesTo_S2x4096x253_S2x4096_d2 reduces_pows h_S_ (ValueIdx.ix2 b s)).trans ?_
  exact congrArg (fun g : Fin 253 → EReal => (Finset.univ : Finset (Fin 253)).fold min (Ideal.ofBits .f32 0x7F800000#32) g) (funext fun k => congrArg y (lift_last reduces_pows b s k))

theorem scales_read (x : FVec Ideal S2x4096x7168 .bf16) (b : Fin 2) (s : Fin 4096) :
    scales x (ValueIdx.ix2 b s) = Scalar.select (cmpf .olt (amts x) (broadcastInDim S2x4096 ![] bcast_S_S2x4096 (constant S_ .f32 0x00800000#32)) (ValueIdx.ix2 b s))
      (broadcastInDim S2x4096 ![] bcast_S_S2x4096 (id (constant (F := Ideal) S_ .f32 0x3F800000#32)) (ValueIdx.ix2 b s))
      (Host.reduce FloatOps.minimumf (above (amts x)) (constant S_ .f32 0x7F800000#32) reducesTo_S2x4096x253_S2x4096_d2 h_S_ (ValueIdx.ix2 b s)) := ValueIdx.select_apply _ _ _ _

theorem tiny_read (a : FVec Ideal S2x4096 .f32) (i : S2x4096.Idx) :
    cmpf .olt a (broadcastInDim S2x4096 ![] bcast_S_S2x4096 (constant S_ .f32 0x00800000#32)) i = Ideal.cmp .olt (a i) (Ideal.ofBits .f32 0x00800000#32) := rfl

theorem one_read (i : S2x4096.Idx) :
    broadcastInDim S2x4096 ![] bcast_S_S2x4096 (id (constant (F := Ideal) S_ .f32 0x3F800000#32)) i = Ideal.ofBits .f32 0x3F800000#32 := rfl

theorem select_lt (a t u v : EReal) : Scalar.select (Ideal.cmp .olt a t) u v = if a < t then u else v := by
  unfold Scalar.select
  by_cases h : a < t
  · rw [if_pos h, if_pos (by simp only [Ideal.cmp, h]; decide)]
  · rw [if_neg h, if_neg (by simp only [Ideal.cmp, h]; decide)]

/-- A row's scale. -/
theorem scales_apply (x : FVec Ideal S2x4096x7168 .bf16) (b : Fin 2) (s : Fin 4096) :
    scales x (ValueIdx.ix2 b s) = rScale (rowAmt fun k : Fin 7168 => x (ValueIdx.ix3 b s k)) := by
  rw [scales_read, tiny_read, one_read, mins_apply, amts_apply, select_lt, bits_tiny, bits_one, bits_top]
  simp only [above_apply, amts_apply]
  rfl

/-- A code. -/
theorem codes_apply (x : FVec Ideal S2x4096x7168 .bf16) (e : FVec Ideal S2x4096 .f32) (b : Fin 2) (s : Fin 4096) (k : Fin 7168) :
    codes x e (ValueIdx.ix3 b s k) = clamp (x (ValueIdx.ix3 b s k) * Ideal.div ((1 : ℝ) : EReal) (e (ValueIdx.ix2 b s))) := by
  rw [← bits_one]
  have hd : ∀ a : FVec Ideal S2x4096 .f32, broadcastInDim S2x4096x7168 ![0, 1, 2] bcast_S2x4096x1_S2x4096x7168_0_1_2
      (broadcastInDim S2x4096x1 ![0, 1] bcast_S2x4096_S2x4096x1_0_1 a) (ValueIdx.ix3 b s k) = a (ValueIdx.ix2 b s) := fun a =>
    (broadcastInDim_apply _ bcast_S2x4096x1_S2x4096x7168_0_1_2 _ (ValueIdx.ix3 b s k) (ValueIdx.ix3 b s (0 : Fin 1))
      (fun a => match a with | ⟨0, _⟩ => rfl | ⟨1, _⟩ => rfl | ⟨2, _⟩ => rfl)).trans (row_col_apply a b s)
  unfold codes
  exact congrArg (fun v : EReal => clamp (x (ValueIdx.ix3 b s k) * v)) (hd _)

end Cert.ReferenceIdeal.Quant
-- ==== Proof.RefEntry.lean ====
/- The scales the reference returns and the codes it hands to the product, as terms of the activations. -/
module

public import proofs.«01_k».proof.Proof.Gen.ReferenceIdeal.Run
public import proofs.«01_k».proof.Proof.RefScale

@[expose] public section

set_option maxRecDepth 16384

noncomputable section

namespace Cert.ReferenceIdeal.Quant

open Idealize.ShloMosaic Idealize.ShloMosaic.TcCoe Idealize.ShloMosaic.StableHlo
open Cert.Scale Cert.Value Cert.ReferenceIdeal Cert.ReferenceIdeal.Gen

variable (m : (ℓ : Loc nD τ sig) → Buf (Elt Ideal) ℓ) (c : Dev nD)

theorem exit_scales : Value.exitV m c (Proc.devRef .tc main_v19) = scales (m ((c : Thread nD τ).loc main_arg0)) :=
  Value.exit_main_v19 m c

set_option maxRecDepth 8192 in
set_option maxHeartbeats 2000000 in
theorem entry_codes : V0 m c (Proc.devRef .tc main_v26)
    = shapeCast S8192x7168 (codes (m ((c : Thread nD τ).loc main_arg0)) (scales (m ((c : Thread nD τ).loc main_arg0)))) shapeCasts_S2x4096x7168_S8192x7168 := by
  simp only [V0, hostOps0, hostOps0_1, hostOps0_2, hostOps0_3, hostOps0_4, hostOps0_5, hostOps0_6, TRef.binary, TRef.ternary, TRef.unary, TRef.toBuf, TRef.ofBuf,
    cast_eq, List.flatten_cons, List.flatten_nil, List.append_nil, List.cons_append, List.nil_append]
  after_results_simp <;> rfl

end Cert.ReferenceIdeal.Quant
-- ==== Proof.RefValue.lean ====
/- The reference's norms and outputs, over the extended reals, at an index, from the arguments, the scales and what its
   gridless call leaves. -/
module

public import proofs.«01_k».proof.Proof.Gen.ReferenceIdeal.Read
public import proofs.«01_k».proof.Proof.Payload

@[expose] public section

set_option maxRecDepth 16384

noncomputable section

namespace Cert.Value

open Idealize.ShloMosaic

/-- The row of the flattened activations that holds sequence place `s` of batch `b`. -/
def row (b : Fin 2) (s : Fin 4096) : Fin 8192 := ⟨b.val * 4096 + s.val, by have := b.isLt; have := s.isLt; omega⟩

/-- A flattened array, unflattened. -/
theorem unflat {α : Type} {N : ℕ} (x : (⟨2, ![8192, N]⟩ : Shape).Idx → α) (h : (⟨2, ![8192, N]⟩ : Shape).ShapeCasts ⟨3, ![2, 4096, N]⟩)
    (b : Fin 2) (s : Fin 4096) (k : Fin N) : shapeCast ⟨3, ![2, 4096, N]⟩ x h (ValueIdx.ix3 b s k) = x (ValueIdx.ix2 (row b s) k) :=
  shapeCast_apply x h (ValueIdx.ix3 b s k) (ValueIdx.ix2 (row b s) k) (by
    rw [Shape.rowMajor_val_two, Shape.rowMajor_val_three]
    rfl)

/-- An array flattened. -/
theorem flat {α : Type} {N : ℕ} (x : (⟨3, ![2, 4096, N]⟩ : Shape).Idx → α) (h : (⟨3, ![2, 4096, N]⟩ : Shape).ShapeCasts ⟨2, ![8192, N]⟩)
    (b : Fin 2) (s : Fin 4096) (k : Fin N) : shapeCast ⟨2, ![8192, N]⟩ x h (ValueIdx.ix2 (row b s) k) = x (ValueIdx.ix3 b s k) :=
  shapeCast_apply x h (ValueIdx.ix2 (row b s) k) (ValueIdx.ix3 b s k) (by
    rw [Shape.rowMajor_val_two, Shape.rowMajor_val_three]
    rfl)

end Cert.Value

namespace Cert.ReferenceIdeal.Read

open Idealize.ShloMosaic Idealize.ShloMosaic.TcCoe
open Cert.Value Cert.ReferenceIdeal Cert.ReferenceIdeal.Gen

variable (x0 : FVec Ideal S2x4096x7168 .bf16) (x2 : FVec Ideal S18432 .f32) (x3 : FVec Ideal S64x7168 .bf16)
  (x4 : FVec Ideal S18432x64 .bf16) (x5 : FVec Ideal S18432 .f32) (r1 : FVec Ideal S8192x18432 .f32) (r2 : FVec Ideal S18432x7168 .f32)
  (e0 : FVec Ideal S2x4096 .f32)

theorem i35 (n : Fin 18432) (k : Fin 7168) : idx_main_v35 (ValueIdx.ix1 n) k = ValueIdx.ix2 n k := by
  funext a; apply Fin.ext
  match a with
  | ⟨0, _⟩ => rfl
  | ⟨1, _⟩ => rfl

theorem l29 (n : Fin 18432) (k : Fin 7168) (r : Fin 64) : lidx_main_v29 (ValueIdx.ix2 n k) r = ValueIdx.ix2 n r := by
  funext a; apply Fin.ext
  match a with
  | ⟨0, _⟩ => rfl
  | ⟨1, _⟩ => rfl

theorem r29 (n : Fin 18432) (k : Fin 7168) (r : Fin 64) : ridx_main_v29 (ValueIdx.ix2 n k) r = ValueIdx.ix2 r k := by
  funext a; apply Fin.ext
  match a with
  | ⟨0, _⟩ => rfl
  | ⟨1, _⟩ => rfl

theorem i30 (n : Fin 18432) (k : Fin 7168) : idx_main_v30 (idx_main_v31 (ValueIdx.ix2 n k)) = ValueIdx.ix1 n := by
  funext a; apply Fin.ext
  match a with
  | ⟨0, _⟩ => rfl

theorem i37 (b : Fin 2) (s : Fin 4096) (n : Fin 18432) : idx_main_v37 (idx_main_v38 (ValueIdx.ix3 b s n)) = ValueIdx.ix2 b s := by
  funext a; apply Fin.ext
  match a with
  | ⟨0, _⟩ => rfl
  | ⟨1, _⟩ => rfl

theorem i40 (b : Fin 2) (s : Fin 4096) (n : Fin 18432) : idx_main_v40 (idx_main_v41 (ValueIdx.ix3 b s n)) = ValueIdx.ix1 n := by
  funext a; apply Fin.ext
  match a with
  | ⟨0, _⟩ => rfl

theorem i48 (b : Fin 2) (s : Fin 4096) (n : Fin 18432) : idx_main_v48 (idx_main_v49 (ValueIdx.ix3 b s n)) = ValueIdx.ix1 n := by
  funext a; apply Fin.ext
  match a with
  | ⟨0, _⟩ => rfl

theorem l43 (b : Fin 2) (s : Fin 4096) (r : Fin 64) (k : Fin 7168) : lidx_main_v43 (ValueIdx.ix3 b s r) k = ValueIdx.ix3 b s k := by
  funext a; apply Fin.ext
  match a with
  | ⟨0, _⟩ => rfl
  | ⟨1, _⟩ => rfl
  | ⟨2, _⟩ => rfl

theorem r43 (b : Fin 2) (s : Fin 4096) (r : Fin 64) (k : Fin 7168) : ridx_main_v43 (ValueIdx.ix3 b s r) k = ValueIdx.ix2 r k := by
  funext a; apply Fin.ext
  match a with
  | ⟨0, _⟩ => rfl
  | ⟨1, _⟩ => rfl

theorem l45 (b : Fin 2) (s : Fin 4096) (n : Fin 18432) (r : Fin 64) : lidx_main_v45 (ValueIdx.ix3 b s n) r = ValueIdx.ix3 b s r := by
  funext a; apply Fin.ext
  match a with
  | ⟨0, _⟩ => rfl
  | ⟨1, _⟩ => rfl
  | ⟨2, _⟩ => rfl

theorem r45 (b : Fin 2) (s : Fin 4096) (n : Fin 18432) (r : Fin 64) : ridx_main_v45 (ValueIdx.ix3 b s n) r = ValueIdx.ix2 n r := by
  funext a; apply Fin.ext
  match a with
  | ⟨0, _⟩ => rfl
  | ⟨1, _⟩ => rfl

/-- An element of the adapted weight. -/
theorem weight_apply (n : Fin 18432) (k : Fin 7168) : val_main_v33 (F := Ideal) x2 x3 x4 r2 (ValueIdx.ix2 n k)
    = r2 (ValueIdx.ix2 n k) * x2 (ValueIdx.ix1 n) + ∑ r : Fin 64, x4 (ValueIdx.ix2 n r) * x3 (ValueIdx.ix2 r k) := by
  rw [val_main_v33_apply, val_main_v32_apply, val_main_v31_apply, val_main_v30_apply, val_main_v29_apply, i30]
  simp only [l29, r29]
  rfl

theorem zero_read : (val_main_cst_10 (F := Ideal)) (Shape.Idx.first h_S_) = 0 := by
  rw [val_main_cst_10_apply]
  show Ideal.ofBits .f32 0x00000000#32 = 0
  exact Cert.Scale.bits_zero

theorem square_apply (i : S18432x7168.Idx) : val_main_v34 (F := Ideal) x2 x3 x4 r2 i
    = val_main_v33 (F := Ideal) x2 x3 x4 r2 i * val_main_v33 (F := Ideal) x2 x3 x4 r2 i := by
  rw [val_main_v34_apply]
  rfl

theorem root_apply (i : S18432.Idx) : val_main_v36 (F := Ideal) x2 x3 x4 r2 i = Ideal.sqrt (val_main_v35 (F := Ideal) x2 x3 x4 r2 i) := by
  rw [val_main_v36_apply]
  generalize val_main_v35 (F := Ideal) x2 x3 x4 r2 i = v
  rfl

/-- The norm of a row of the adapted weight. -/
theorem norm_apply (n : Fin 18432) : val_main_v36 (F := Ideal) x2 x3 x4 r2 (ValueIdx.ix1 n)
    = rowNorm (fun k : Fin 7168 => r2 (ValueIdx.ix2 n k)) (x2 (ValueIdx.ix1 n)) (fun r : Fin 64 => x4 (ValueIdx.ix2 n r)) (fun r k => x3 (ValueIdx.ix2 r k)) := by
  rw [root_apply, val_main_v35_apply, zero_read, zero_add]
  simp only [i35, square_apply, weight_apply]
  rfl

/-- The activations through the down projection. -/
theorem low_apply (b : Fin 2) (s : Fin 4096) (r : Fin 64) : val_main_v44 (F := Ideal) x0 x3 (ValueIdx.ix3 b s r)
    = ∑ k : Fin 7168, x0 (ValueIdx.ix3 b s k) * x3 (ValueIdx.ix2 r k) := by
  rw [val_main_v44_apply, val_main_v43_apply]
  simp only [l43, r43]
  rfl

/-- The low-rank term. -/
theorem lora_apply (b : Fin 2) (s : Fin 4096) (n : Fin 18432) : val_main_v45 (F := Ideal) x0 x3 x4 (ValueIdx.ix3 b s n)
    = ∑ r : Fin 64, (∑ k : Fin 7168, x0 (ValueIdx.ix3 b s k) * x3 (ValueIdx.ix2 r k)) * x4 (ValueIdx.ix2 n r) := by
  rw [val_main_v45_apply]
  simp only [l45, r45, low_apply]

theorem dot_read (b : Fin 2) (s : Fin 4096) (n : Fin 18432) : val_main_v28 (F := Ideal) r1 (ValueIdx.ix3 b s n) = r1 (ValueIdx.ix2 (row b s) n) :=
  unflat r1 shapeCasts_S8192x18432_S2x4096x18432 b s n

theorem out_read (i : S2x4096x18432.Idx) : val_main_v51 (F := Ideal) x0 x2 x3 x4 x5 r1 r2 e0 i
    = (val_main_v28 (F := Ideal) r1 i * val_main_v38 (F := Ideal) e0 i * val_main_v41 (F := Ideal) x2 i + val_main_v45 (F := Ideal) x0 x3 x4 i)
      * val_main_v49 (F := Ideal) x2 x3 x4 x5 r2 i := by
  rw [val_main_v51_apply, val_main_v50_apply, val_main_v46_apply, val_main_v42_apply, val_main_v39_apply]
  rfl

theorem ratio_read (i : S18432.Idx) : val_main_v47 (F := Ideal) x2 x3 x4 x5 r2 i = Ideal.div (x5 i) (val_main_v36 (F := Ideal) x2 x3 x4 r2 i) := by
  rw [val_main_v47_apply]
  generalize val_main_v36 (F := Ideal) x2 x3 x4 r2 i = v
  rfl

/-- An element of the output. -/
theorem out_apply (b : Fin 2) (s : Fin 4096) (n : Fin 18432) : val_main_v51 (F := Ideal) x0 x2 x3 x4 x5 r1 r2 e0 (ValueIdx.ix3 b s n)
    = outVal (r1 (ValueIdx.ix2 (row b s) n)) (e0 (ValueIdx.ix2 b s)) (x2 (ValueIdx.ix1 n))
        (∑ r : Fin 64, (∑ k : Fin 7168, x0 (ValueIdx.ix3 b s k) * x3 (ValueIdx.ix2 r k)) * x4 (ValueIdx.ix2 n r)) (x5 (ValueIdx.ix1 n))
        (rowNorm (fun k : Fin 7168 => r2 (ValueIdx.ix2 n k)) (x2 (ValueIdx.ix1 n)) (fun r : Fin 64 => x4 (ValueIdx.ix2 n r)) (fun r k => x3 (ValueIdx.ix2 r k))) := by
  rw [out_read, dot_read, val_main_v38_apply, val_main_v37_apply, i37, val_main_v41_apply, val_main_v40_apply, i40, lora_apply,
    val_main_v49_apply, val_main_v48_apply, i48, ratio_read, norm_apply]
  rfl

end Cert.ReferenceIdeal.Read
-- ==== Proof.RefRun.lean ====
/- What the reference's run leaves in each result, over the extended reals, from the arguments. -/
module

public import proofs.«01_k».proof.Proof.RefRegion
public import proofs.«01_k».proof.Proof.RefEntry
public import proofs.«01_k».proof.Proof.RefValue

@[expose] public section

set_option maxRecDepth 16384

noncomputable section

namespace Cert.ReferenceIdeal.Whole

open Idealize.ShloMosaic Idealize.ShloMosaic.TcCoe Idealize.ShloMosaic.StableHlo Idealize.SL.Sem
open Cert.ReferenceIdeal Cert.ReferenceIdeal.Gen Cert.ReferenceIdeal.Value Cert.ReferenceIdeal.Region Cert.ReferenceIdeal.Quant

/-- The flattened codes of the activations. -/
def flatCodes (x : FVec Ideal S2x4096x7168 .bf16) : FVec Ideal S8192x7168 .f32 :=
  shapeCast S8192x7168 (codes x (scales x)) shapeCasts_S2x4096x7168_S8192x7168

variable (m : (ℓ : Loc nD τ sig) → Buf (Elt Ideal) ℓ) (c : Dev nD)

theorem out_term : Pipeline.afterTail₀ cfgs (Gen.dats m) 0 (Gen.V0 m) [Gen.hostOps1] c main_v51
    = Read.val_main_v51 (F := Ideal) (m ((c : Thread nD τ).loc main_arg0)) (m ((c : Thread nD τ).loc main_arg2)) (m ((c : Thread nD τ).loc main_arg3))
        (m ((c : Thread nD τ).loc main_arg4)) (m ((c : Thread nD τ).loc main_arg5))
        (gDot (flatCodes (m ((c : Thread nD τ).loc main_arg0))) (m ((c : Thread nD τ).loc main_arg1))) (m ((c : Thread nD τ).loc main_arg1))
        (scales (m ((c : Thread nD τ).loc main_arg0))) := by
  refine ((tail_main_v51 (exitV m c)).trans (Read.val_main_v51_eq (exitV m c))).trans ?_
  rw [exit_main_arg0, exit_main_arg2, exit_main_arg3, exit_main_arg4, exit_main_arg5, exit_main_v27_1, exit_main_v27_2, exit_scales,
    base_all, wf_all, entry_codes]
  rfl

theorem norm_term : Pipeline.afterTail₀ cfgs (Gen.dats m) 0 (Gen.V0 m) [Gen.hostOps1] c main_v36
    = Read.val_main_v36 (F := Ideal) (m ((c : Thread nD τ).loc main_arg2)) (m ((c : Thread nD τ).loc main_arg3))
        (m ((c : Thread nD τ).loc main_arg4)) (m ((c : Thread nD τ).loc main_arg1)) := by
  refine ((tail_main_v36 (exitV m c)).trans (Read.val_main_v36_eq (exitV m c))).trans ?_
  rw [exit_main_arg2, exit_main_arg3, exit_main_arg4, exit_main_v27_2, wf_all]

theorem codes_term : Pipeline.afterTail₀ cfgs (Gen.dats m) 0 (Gen.V0 m) [Gen.hostOps1] c main_v52
    = shapeCast S2x4096x7168 (flatCodes (m ((c : Thread nD τ).loc main_arg0))) shapeCasts_S8192x7168_S2x4096x7168 := by
  refine (fin_main_v52 m c).trans ?_
  rw [codes_all, entry_codes]
  rfl

/-- The reference's run, result by result. -/
theorem run_results (ρ : Dev nD → PrngReg) :
    θ_run defs (onTc (τ := τ) (main (F := Ideal))) ⟨m, fun _ => 0, ρ⟩ fun r => ∀ c : Dev nD,
      r.2.mem ((c.tc : Thread nD τ).loc main_v51)
        = Read.val_main_v51 (F := Ideal) (m ((c : Thread nD τ).loc main_arg0)) (m ((c : Thread nD τ).loc main_arg2)) (m ((c : Thread nD τ).loc main_arg3))
            (m ((c : Thread nD τ).loc main_arg4)) (m ((c : Thread nD τ).loc main_arg5))
            (gDot (flatCodes (m ((c : Thread nD τ).loc main_arg0))) (m ((c : Thread nD τ).loc main_arg1))) (m ((c : Thread nD τ).loc main_arg1))
            (scales (m ((c : Thread nD τ).loc main_arg0)))
      ∧ r.2.mem ((c.tc : Thread nD τ).loc main_v36)
        = Read.val_main_v36 (F := Ideal) (m ((c : Thread nD τ).loc main_arg2)) (m ((c : Thread nD τ).loc main_arg3))
            (m ((c : Thread nD τ).loc main_arg4)) (m ((c : Thread nD τ).loc main_arg1))
      ∧ r.2.mem ((c.tc : Thread nD τ).loc main_v52)
        = shapeCast S2x4096x7168 (flatCodes (m ((c : Thread nD τ).loc main_arg0))) shapeCasts_S8192x7168_S2x4096x7168
      ∧ r.2.mem ((c.tc : Thread nD τ).loc main_v19) = scales (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
    (h c).1.trans ((fin_main_v51 m c).symm.trans (out_term m c)),
    (h c).2.1.trans ((fin_main_v36 m c).symm.trans (norm_term m c)),
    (h c).2.2.1.trans ((fin_main_v52 m c).symm.trans (codes_term m c)),
    (h c).2.2.2.1.trans ((exit_main_v19 m c).symm.trans (exit_scales m c)),
    (h c).2.2.2.2⟩) (Value.run m ρ)

end Cert.ReferenceIdeal.Whole
-- ==== Proof.Tie.lean ====
/- The kernel's results and the reference's are the same, over the extended reals, for activations that bf16 holds. -/
module

public import proofs.«01_k».proof.Proof.KernelValue
public import proofs.«01_k».proof.Proof.RefRun

@[expose] public section

set_option maxRecDepth 16384

noncomputable section

namespace Cert.Tie

open Idealize.ShloMosaic
open Cert.Scale Cert.Value Cert.KernelIdeal.RegionValue

/-! ## A row's amount is a real number below 2^126 -/

theorem rowAmt_real {K : ℕ} (k0 : Fin K) (f : Fin K → EReal) (hf : ∀ k, max (f k) (-(f k)) ≤ Ideal.ofBits .bf16 0x7F7F#16) :
    ∃ r : ℝ, rowAmt f = (r : EReal) ∧ 0 ≤ r ∧ r < (2 : ℝ) ^ (126 : ℤ) := by
  obtain ⟨q, hq, hq0, hq1⟩ := bits_recip
  unfold rowAmt
  rw [hq, bits_bot]
  have hle : (Finset.univ : Finset (Fin K)).fold max (⊥ : EReal) (fun k => max (f k) (-(f k))) ≤ ((255 * 2 ^ 120 : ℝ) : EReal) := by
    rw [Finset.fold_max_le]
    exact ⟨bot_le, fun k _ => (hf k).trans bits_bf16_max.le⟩
  have hge : (0 : EReal) ≤ (Finset.univ : Finset (Fin K)).fold max (⊥ : EReal) (fun k => max (f k) (-(f k))) := by
    rw [Finset.le_fold_max]
    refine Or.inr ⟨k0, Finset.mem_univ _, ?_⟩
    rcases le_total 0 (f k0) with h | h
    · exact h.trans (le_max_left _ _)
    · exact (EReal.neg_nonneg.mpr h).trans (le_max_right _ _)
  generalize (Finset.univ : Finset (Fin K)).fold max (⊥ : EReal) (fun k => max (f k) (-(f k))) = a at hle hge
  have hbot : a ≠ ⊥ := fun h => by rw [h] at hge; exact absurd hge (by simp)
  have htop : a ≠ ⊤ := fun h => by rw [h] at hle; exact absurd hle (not_le.mpr (EReal.coe_lt_top _))
  lift a to ℝ using ⟨htop, hbot⟩
  rw [EReal.coe_le_coe_iff] at hle
  have h0 : (0 : ℝ) ≤ a := by exact_mod_cast hge
  refine ⟨a * q, by rw [EReal.coe_mul], mul_nonneg h0 hq0, ?_⟩
  calc a * q ≤ (255 * 2 ^ 120) * (1 / 256) := mul_le_mul hle hq1 hq0 (by positivity)
    _ < (2 : ℝ) ^ (126 : ℤ) := by norm_num

/-- The two readings of a row's scale, and of its inverse. -/
theorem row_scale {K : ℕ} (k0 : Fin K) (f : Fin K → EReal) (hf : ∀ k, max (f k) (-(f k)) ≤ Ideal.ofBits .bf16 0x7F7F#16) :
    kScale (rowAmt f) = rScale (rowAmt f) ∧ kInv (rowAmt f) = Ideal.div ((1 : ℝ) : EReal) (rScale (rowAmt f)) := by
  obtain ⟨r, hr, h0, h1⟩ := rowAmt_real k0 f hf
  rw [hr]
  exact scale_eq r h0 h1

/-! ## Reshapes of a vector -/

theorem cast_row {α : Type} {N : ℕ} (x : (⟨1, ![N]⟩ : Shape).Idx → α) (h : (⟨1, ![N]⟩ : Shape).ShapeCasts ⟨2, ![1, N]⟩) (n : Fin N) :
    shapeCast ⟨2, ![1, N]⟩ x h (ValueIdx.ix2 (0 : Fin 1) n) = x (ValueIdx.ix1 n) :=
  shapeCast_apply x h _ (ValueIdx.ix1 n) (by
    rw [Shape.rowMajor_val_one, Shape.rowMajor_val_two]
    show n.val = 0 * N + n.val
    omega)

theorem cast_col {α : Type} {N : ℕ} (x : (⟨1, ![N]⟩ : Shape).Idx → α) (h : (⟨1, ![N]⟩ : Shape).ShapeCasts ⟨2, ![N, 1]⟩) (n : Fin N) :
    shapeCast ⟨2, ![N, 1]⟩ x h (ValueIdx.ix2 n (0 : Fin 1)) = x (ValueIdx.ix1 n) :=
  shapeCast_apply x h _ (ValueIdx.ix1 n) (by
    rw [Shape.rowMajor_val_one, Shape.rowMajor_val_two]
    show n.val = n.val * 1 + 0
    omega)

theorem cast_col_row {α : Type} {N : ℕ} (x : (⟨2, ![N, 1]⟩ : Shape).Idx → α) (h : (⟨2, ![N, 1]⟩ : Shape).ShapeCasts ⟨2, ![1, N]⟩) (n : Fin N) :
    shapeCast ⟨2, ![1, N]⟩ x h (ValueIdx.ix2 (0 : Fin 1) n) = x (ValueIdx.ix2 n (0 : Fin 1)) :=
  shapeCast_apply x h _ (ValueIdx.ix2 n (0 : Fin 1)) (by
    rw [Shape.rowMajor_val_two, Shape.rowMajor_val_two]
    show n.val * 1 + 0 = 0 * N + n.val
    omega)

theorem cast_col_vec {α : Type} {N : ℕ} (x : (⟨2, ![N, 1]⟩ : Shape).Idx → α) (h : (⟨2, ![N, 1]⟩ : Shape).ShapeCasts ⟨1, ![N]⟩) (n : Fin N) :
    shapeCast ⟨1, ![N]⟩ x h (ValueIdx.ix1 n) = x (ValueIdx.ix2 n (0 : Fin 1)) :=
  shapeCast_apply x h _ (ValueIdx.ix2 n (0 : Fin 1)) (by
    rw [Shape.rowMajor_val_one, Shape.rowMajor_val_two]
    show n.val * 1 + 0 = n.val
    omega)

theorem cast_scales {α : Type} (x : (⟨2, ![8192, 1]⟩ : Shape).Idx → α) (h : (⟨2, ![8192, 1]⟩ : Shape).ShapeCasts ⟨2, ![2, 4096]⟩) (b : Fin 2) (s : Fin 4096) :
    shapeCast ⟨2, ![2, 4096]⟩ x h (ValueIdx.ix2 b s) = x (ValueIdx.ix2 (row b s) (0 : Fin 1)) :=
  shapeCast_apply x h _ (ValueIdx.ix2 (row b s) (0 : Fin 1)) (by
    rw [Shape.rowMajor_val_two, Shape.rowMajor_val_two]
    show (b.val * 4096 + s.val) * 1 + 0 = b.val * 4096 + s.val
    omega)

/-! ## The kernel's formulas at an index -/

open Cert.KernelIdeal

theorem gCodes_at (X : S8192x7168.Idx → EReal) (p : Fin 8192) (k : Fin 7168) :
    gCodes X (ValueIdx.ix2 p k) = clamp (X (ValueIdx.ix2 p k) * kInv (rowAmt fun k : Fin 7168 => X (ValueIdx.ix2 p k))) := rfl

theorem gScale_at (X : S8192x7168.Idx → EReal) (p : Fin 8192) (q : Fin 1) :
    gScale X (ValueIdx.ix2 p q) = kScale (rowAmt fun k : Fin 7168 => X (ValueIdx.ix2 p k)) := rfl

theorem gLow_at (X : S8192x7168.Idx → EReal) (la : S64x7168.Idx → EReal) (p : Fin 8192) (r : Fin 64) :
    gLow X la (ValueIdx.ix2 p r) = ∑ k : Fin 7168, X (ValueIdx.ix2 p k) * la (ValueIdx.ix2 r k) := rfl

theorem gNorm_at (w : S18432x7168.Idx → EReal) (s : S18432x1.Idx → EReal) (a : S64x7168.Idx → EReal) (b : S18432x64.Idx → EReal) (n : Fin 18432) (q : Fin 1) :
    gNorm w s a b (ValueIdx.ix2 n q) = rowNorm (fun k : Fin 7168 => w (ValueIdx.ix2 n k)) (s (ValueIdx.ix2 n (0 : Fin 1))) (fun r : Fin 64 => b (ValueIdx.ix2 n r))
      (fun r k => a (ValueIdx.ix2 r k)) := rfl

theorem gOut_at (x : S8192x7168.Idx → EReal) (xs : S8192x1.Idx → EReal) (low : S8192x64.Idx → EReal) (w : S18432x7168.Idx → EReal) (b : S18432x64.Idx → EReal)
    (ws mag norm : S1x18432.Idx → EReal) (p : Fin 8192) (n : Fin 18432) :
    gOut x xs low w b ws mag norm (ValueIdx.ix2 p n)
      = outVal (∑ k : Fin 7168, x (ValueIdx.ix2 p k) * w (ValueIdx.ix2 n k)) (xs (ValueIdx.ix2 p (0 : Fin 1))) (ws (ValueIdx.ix2 (0 : Fin 1) n))
          (∑ r : Fin 64, low (ValueIdx.ix2 p r) * b (ValueIdx.ix2 n r)) (mag (ValueIdx.ix2 (0 : Fin 1) n)) (norm (ValueIdx.ix2 (0 : Fin 1) n)) := rfl

theorem gDot_at (z : S8192x7168.Idx → EReal) (w : S18432x7168.Idx → EReal) (p : Fin 8192) (n : Fin 18432) :
    Cert.ReferenceIdeal.Region.gDot z w (ValueIdx.ix2 p n) = ∑ k : Fin 7168, z (ValueIdx.ix2 p k) * w (ValueIdx.ix2 n k) := rfl

/-! ## The four results -/

variable (x0 : S2x4096x7168.Idx → EReal) (x1 : S18432x7168.Idx → EReal) (x2 : S18432.Idx → EReal) (x3 : S64x7168.Idx → EReal)
  (x4 : S18432x64.Idx → EReal) (x5 : S18432.Idx → EReal)

/-- The flattened activations. -/
abbrev X : S8192x7168.Idx → EReal := shapeCast S8192x7168 x0 Gen.shapeCasts_S2x4096x7168_S8192x7168

theorem X_at (b : Fin 2) (s : Fin 4096) (k : Fin 7168) : X x0 (ValueIdx.ix2 (row b s) k) = x0 (ValueIdx.ix3 b s k) :=
  flat x0 Gen.shapeCasts_S2x4096x7168_S8192x7168 b s k

theorem flatCodes_at (b : Fin 2) (s : Fin 4096) (k : Fin 7168) :
    Cert.ReferenceIdeal.Whole.flatCodes x0 (ValueIdx.ix2 (row b s) k)
      = Cert.ReferenceIdeal.Quant.codes x0 (Cert.ReferenceIdeal.Quant.scales x0) (ValueIdx.ix3 b s k) :=
  flat (Cert.ReferenceIdeal.Quant.codes x0 (Cert.ReferenceIdeal.Quant.scales x0)) Cert.ReferenceIdeal.Gen.shapeCasts_S2x4096x7168_S8192x7168 b s k

variable (hb : ∀ i, max (x0 i) (-(x0 i)) ≤ Ideal.ofBits .bf16 0x7F7F#16)

include hb

theorem scale_at (b : Fin 2) (s : Fin 4096) : gScale (X x0) (ValueIdx.ix2 (row b s) (0 : Fin 1)) = Cert.ReferenceIdeal.Quant.scales x0 (ValueIdx.ix2 b s) := by
  rw [gScale_at, Cert.ReferenceIdeal.Quant.scales_apply]
  simp only [X_at]
  exact (row_scale (0 : Fin 7168) (fun k => x0 (ValueIdx.ix3 b s k)) fun k => hb _).1

theorem code_at (b : Fin 2) (s : Fin 4096) (k : Fin 7168) :
    gCodes (X x0) (ValueIdx.ix2 (row b s) k) = Cert.ReferenceIdeal.Whole.flatCodes x0 (ValueIdx.ix2 (row b s) k) := by
  rw [gCodes_at, flatCodes_at, Cert.ReferenceIdeal.Quant.codes_apply, Cert.ReferenceIdeal.Quant.scales_apply]
  simp only [X_at]
  rw [(row_scale (0 : Fin 7168) (fun k => x0 (ValueIdx.ix3 b s k)) fun k => hb _).2]

/-- The scales. -/
theorem scales_eq : shapeCast S2x4096 (gScale (X x0)) Gen.shapeCasts_S8192x1_S2x4096 = Cert.ReferenceIdeal.Quant.scales x0 := by
  funext i
  obtain ⟨b, s, rfl⟩ : ∃ (b : Fin 2) (s : Fin 4096), i = ValueIdx.ix2 b s := ⟨i 0, i 1, ValueIdx.eq_ix2 i⟩
  exact (cast_scales _ Gen.shapeCasts_S8192x1_S2x4096 b s).trans (scale_at x0 hb b s)

/-- The codes. -/
theorem codes_eq : shapeCast S2x4096x7168 (gCodes (X x0)) Gen.shapeCasts_S8192x7168_S2x4096x7168
    = shapeCast S2x4096x7168 (Cert.ReferenceIdeal.Whole.flatCodes x0) Cert.ReferenceIdeal.Gen.shapeCasts_S8192x7168_S2x4096x7168 := by
  funext i
  obtain ⟨b, s, k, rfl⟩ : ∃ (b : Fin 2) (s : Fin 4096) (k : Fin 7168), i = ValueIdx.ix3 b s k := ⟨i 0, i 1, i 2, ValueIdx.eq_ix3 i⟩
  exact (unflat _ Gen.shapeCasts_S8192x7168_S2x4096x7168 b s k).trans ((code_at x0 hb b s k).trans
    (unflat _ Cert.ReferenceIdeal.Gen.shapeCasts_S8192x7168_S2x4096x7168 b s k).symm)

omit hb

/-- The norms, as the kernel's run states them. -/
abbrev norms : S18432x1.Idx → EReal := gNorm x1 (shapeCast S18432x1 x2 Gen.shapeCasts_S18432_S18432x1) x3 x4

theorem norm_at (n : Fin 18432) : norms x1 x2 x3 x4 (ValueIdx.ix2 n (0 : Fin 1))
    = rowNorm (fun k : Fin 7168 => x1 (ValueIdx.ix2 n k)) (x2 (ValueIdx.ix1 n)) (fun r : Fin 64 => x4 (ValueIdx.ix2 n r)) (fun r k => x3 (ValueIdx.ix2 r k)) := by
  refine (gNorm_at x1 _ x3 x4 n 0).trans ?_
  rw [show shapeCast S18432x1 x2 Gen.shapeCasts_S18432_S18432x1 (ValueIdx.ix2 n (0 : Fin 1)) = x2 (ValueIdx.ix1 n) from cast_col x2 Gen.shapeCasts_S18432_S18432x1 n]

/-- The norms. -/
theorem norms_eq : shapeCast S18432 (norms x1 x2 x3 x4) Gen.shapeCasts_S18432x1_S18432 = Cert.ReferenceIdeal.Read.val_main_v36 (F := Ideal) x2 x3 x4 x1 := by
  funext i
  obtain ⟨n, rfl⟩ : ∃ n : Fin 18432, i = ValueIdx.ix1 n := ⟨i 0, ValueIdx.eq_ix1 i⟩
  exact (cast_col_vec _ Gen.shapeCasts_S18432x1_S18432 n).trans ((norm_at x1 x2 x3 x4 n).trans (Cert.ReferenceIdeal.Read.norm_apply x2 x3 x4 x1 n).symm)

include hb

/-- The outputs. -/
theorem outs_eq : shapeCast S2x4096x18432
      (gOut (gCodes (X x0)) (gScale (X x0)) (gLow (X x0) x3) x1 x4 (shapeCast S1x18432 x2 Gen.shapeCasts_S18432_S1x18432)
        (shapeCast S1x18432 x5 Gen.shapeCasts_S18432_S1x18432) (shapeCast S1x18432 (norms x1 x2 x3 x4) Gen.shapeCasts_S18432x1_S1x18432))
      Gen.shapeCasts_S8192x18432_S2x4096x18432
    = Cert.ReferenceIdeal.Read.val_main_v51 (F := Ideal) x0 x2 x3 x4 x5 (Cert.ReferenceIdeal.Region.gDot (Cert.ReferenceIdeal.Whole.flatCodes x0) x1) x1
        (Cert.ReferenceIdeal.Quant.scales x0) := by
  funext i
  obtain ⟨b, s, n, rfl⟩ : ∃ (b : Fin 2) (s : Fin 4096) (n : Fin 18432), i = ValueIdx.ix3 b s n := ⟨i 0, i 1, i 2, ValueIdx.eq_ix3 i⟩
  refine (unflat _ Gen.shapeCasts_S8192x18432_S2x4096x18432 b s n).trans ?_
  refine (gOut_at _ _ _ _ _ _ _ _ (row b s) n).trans ?_
  refine Eq.trans ?_ (Cert.ReferenceIdeal.Read.out_apply x0 x2 x3 x4 x5 _ x1 _ b s n).symm
  have e1 : shapeCast S1x18432 x2 Gen.shapeCasts_S18432_S1x18432 (ValueIdx.ix2 (0 : Fin 1) n) = x2 (ValueIdx.ix1 n) := cast_row x2 Gen.shapeCasts_S18432_S1x18432 n
  have e2 : shapeCast S1x18432 x5 Gen.shapeCasts_S18432_S1x18432 (ValueIdx.ix2 (0 : Fin 1) n) = x5 (ValueIdx.ix1 n) := cast_row x5 Gen.shapeCasts_S18432_S1x18432 n
  have e3 : shapeCast S1x18432 (norms x1 x2 x3 x4) Gen.shapeCasts_S18432x1_S1x18432 (ValueIdx.ix2 (0 : Fin 1) n) = _ :=
    (cast_col_row _ Gen.shapeCasts_S18432x1_S1x18432 n).trans (norm_at x1 x2 x3 x4 n)
  rw [e1, e2, e3, scale_at x0 hb b s, gDot_at]
  simp only [code_at x0 hb b s, gLow_at, X_at]

end Cert.Tie
-- ==== Proof.lean ====
/- The certificate's theorem: the kernel and the reference run and keep their arguments, and over the extended reals, on
   finite activations, the kernel's four results are the reference's. The value proof is in the modules under Proof/: Scale
   (the scale word and its inverse, by the place of a number among the powers of two), RegionValue and OutValue (what the
   three pipelines leave), KernelValue (the kernel's results from its arguments), RefScale to RefRun (the reference's),
   Tie (that they are the same). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelRun
public import proofs.«01_k».proof.Proof.Tie
public import Idealize.ShloMosaic.Adequacy
public import Idealize.ShloMosaic.Init

@[expose] public section

set_option maxRecDepth 16384

noncomputable section

namespace Cert.Proof

open Idealize.ShloMosaic Idealize.SL.Sem Cert.Kernel

/-- The one side condition the precondition states. -/
theorem pre_facts : Cert.Pre_finite.Facts := ⟨by decide⟩

/-- No activation is above the largest bf16 number in absolute value. -/
def Small (x : Cert.Pre_finite.S2x4096x7168.Idx → EReal) : Prop := ∀ i, max (x i) (-(x i)) ≤ Ideal.ofBits .bf16 0x7F7F#16

/-- The precondition says so. -/
theorem bound [Cert.Pre_finite.Facts] (x0 : FVec Ideal Cert.Pre_finite.S2x4096x7168 .bf16) (x1 : FVec Ideal Cert.Pre_finite.S18432x7168 .fp8e4m3)
    (x2 : FVec Ideal Cert.Pre_finite.S18432 .f32) (x3 : FVec Ideal Cert.Pre_finite.S64x7168 .bf16) (x4 : FVec Ideal Cert.Pre_finite.S18432x64 .bf16)
    (x5 : FVec Ideal Cert.Pre_finite.S18432 .f32) (h : Cert.Pre_finite.fn (F := Ideal) x0 x1 x2 x3 x4 x5 = fun _ => 1#1) :
    Small x0 := by
  intro i
  have h1 : BitVec.ofBool (decide (max (x0 i) (-(x0 i)) ≤ Ideal.ofBits .bf16 0x7F7F#16)) = 1#1 := congrFun h i
  by_contra hn
  rw [decide_eq_false hn] at h1
  exact absurd h1 (by decide)

/-- The kernel's run leaves, result by result, the reference's terms of its own arguments. -/
theorem kernel_results [Cert.Pre_finite.Facts] (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hb : Small (m ((c.tc : Thread Cert.KernelIdeal.nD Cert.KernelIdeal.τ).loc Cert.KernelIdeal.main_arg0))) :
    Cert.KernelIdeal.Gen.W7 m ρ c (Proc.devRef .tc Cert.KernelIdeal.main_v8)
      = Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (Cert.ReferenceIdeal.Region.gDot (Cert.ReferenceIdeal.Whole.flatCodes (m ((c.tc : Thread Cert.KernelIdeal.nD Cert.KernelIdeal.τ).loc Cert.KernelIdeal.main_arg0))) (m ((c.tc : Thread Cert.KernelIdeal.nD Cert.KernelIdeal.τ).loc Cert.KernelIdeal.main_arg1))) (m ((c.tc : Thread Cert.KernelIdeal.nD Cert.KernelIdeal.τ).loc Cert.KernelIdeal.main_arg1))
          (Cert.ReferenceIdeal.Quant.scales (m ((c.tc : Thread Cert.KernelIdeal.nD Cert.KernelIdeal.τ).loc Cert.KernelIdeal.main_arg0)))
    ∧ Cert.KernelIdeal.Gen.W7 m ρ c (Proc.devRef .tc Cert.KernelIdeal.main_v9)
      = Cert.ReferenceIdeal.Read.val_main_v36 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg1))
    ∧ Cert.KernelIdeal.Gen.W7 m ρ c (Proc.devRef .tc Cert.KernelIdeal.main_v10)
      = shapeCast Cert.ReferenceIdeal.S2x4096x7168 (Cert.ReferenceIdeal.Whole.flatCodes (m ((c.tc : Thread Cert.KernelIdeal.nD Cert.KernelIdeal.τ).loc Cert.KernelIdeal.main_arg0))) Cert.ReferenceIdeal.Gen.shapeCasts_S8192x7168_S2x4096x7168
    ∧ Cert.KernelIdeal.Gen.W7 m ρ c (Proc.devRef .tc Cert.KernelIdeal.main_v11)
      = Cert.ReferenceIdeal.Quant.scales (m ((c.tc : Thread Cert.KernelIdeal.nD Cert.KernelIdeal.τ).loc Cert.KernelIdeal.main_arg0)) :=
  ⟨(Cert.KernelIdeal.Whole.w7_out m ρ c).trans (Cert.Tie.outs_eq _ _ _ _ _ _ hb),
    (Cert.KernelIdeal.Whole.w7_norm m ρ c).trans (Cert.Tie.norms_eq _ _ _ _),
    (Cert.KernelIdeal.Whole.w7_codes m ρ c).trans (Cert.Tie.codes_eq _ hb),
    (Cert.KernelIdeal.Whole.w7_scale m ρ c).trans (Cert.Tie.scales_eq _ hb)⟩

/-- The value claim. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  haveI := pre_facts
  intro m g m' g' hp ha
  have hb := fun c => bound _ _ _ _ _ _ (hp c)
  refine ⟨fun c => Cert.KernelIdeal.Gen.W7 m g c (Proc.devRef .tc Cert.KernelIdeal.main_v8),
    fun c => Cert.KernelIdeal.Gen.W7 m g c (Proc.devRef .tc Cert.KernelIdeal.main_v9),
    fun c => Cert.KernelIdeal.Gen.W7 m g c (Proc.devRef .tc Cert.KernelIdeal.main_v10),
    fun c => Cert.KernelIdeal.Gen.W7 m g c (Proc.devRef .tc Cert.KernelIdeal.main_v11),
    Cert.KernelIdeal.Whole.run_results m g, ?_⟩
  refine (θ_run _ _ _).mono (fun r h c => ?_) (Cert.ReferenceIdeal.Whole.run_results m' g')
  obtain ⟨h0, h1, h2, h3, hargs⟩ := h c
  obtain ⟨k0, k1, k2, k3⟩ := kernel_results m g c (hb c)
  obtain ⟨a0, a1, a2, a3, a4, a5⟩ := ha c
  rw [a0, a1, a2, a3, a4, a5] at h0
  rw [a1, a2, a3, a4] at h1
  rw [a0] at h2 h3
  exact ⟨h0.trans k0.symm, h1.trans k1.symm, h2.trans k2.symm, h3.trans k3.symm, hargs⟩

theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
